-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ok [hPre_ok : Cert.Pre_ok.Facts] (m : (ℓ : Loc Cert.KernelIdeal.nD Cert.KernelIdeal.τ Cert.KernelIdeal.sig) → Buf (Elt Ideal) ℓ) : Prop :=
  ∀ c : Dev Cert.KernelIdeal.nD,
    (Cert.Pre_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.1 = (fun _ => 1#1)
    ∧ (Cert.Pre_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.2.1 = (fun _ => 1#1)
    ∧ (Cert.Pre_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.2.2.1 = (fun _ => 1#1)
    ∧ (Cert.Pre_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.2.2.2.1 = (fun _ => 1#1)
    ∧ (Cert.Pre_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.2.2.2.2.1 = (fun _ => 1#1)
    ∧ (Cert.Pre_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.2.2.2.2.2.1 = (fun _ => 1#1)
    ∧ (Cert.Pre_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.2.2.2.2.2.2.1 = (fun _ => 1#1)
    ∧ (Cert.Pre_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.2.2.2.2.2.2.2.1 = (fun _ => 1#1)
    ∧ (Cert.Pre_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ok [hPre_ok : Cert.Pre_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2.1 = (fun _ => 1#1)
    ∧ (Cert.Pre_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2.2.1 = (fun _ => 1#1)
    ∧ (Cert.Pre_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2.2.2.1 = (fun _ => 1#1)
    ∧ (Cert.Pre_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2.2.2.2.1 = (fun _ => 1#1)
    ∧ (Cert.Pre_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2.2.2.2.2.1 = (fun _ => 1#1)
    ∧ (Cert.Pre_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2.2.2.2.2.2.1 = (fun _ => 1#1)
    ∧ (Cert.Pre_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2.2.2.2.2.2.2.1 = (fun _ => 1#1)
    ∧ (Cert.Pre_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2.2.2.2.2.2.2.2.1 = (fun _ => 1#1)
    ∧ (Cert.Pre_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_ok [hKernelIdeal : Cert.KernelIdeal.Facts] [hPre_ok : Cert.Pre_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_ok [hReferenceIdeal : Cert.ReferenceIdeal.Facts] [hPre_ok : Cert.Pre_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_ok [hKernelIdeal : Cert.KernelIdeal.Facts] [hReferenceIdeal : Cert.ReferenceIdeal.Facts] [hPre_ok : Cert.Pre_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_ok : Cert.Pre_ok.Facts),
    quiescent_Kernel (hKernel := hKernel)
    ∧ quiescent_KernelIdeal (hKernelIdeal := hKernelIdeal)
    ∧ quiescent_KernelIdeal_pre_ok (hKernelIdeal := hKernelIdeal) (hPre_ok := hPre_ok)
    ∧ quiescent_ReferenceIdeal (hReferenceIdeal := hReferenceIdeal)
    ∧ quiescent_ReferenceIdeal_pre_ok (hReferenceIdeal := hReferenceIdeal) (hPre_ok := hPre_ok)
    ∧ preserves_Kernel_KernelIdeal
    ∧ algebraic_KernelIdeal_ReferenceIdeal_pre_ok (hKernelIdeal := hKernelIdeal) (hReferenceIdeal := hReferenceIdeal) (hPre_ok := hPre_ok)
-- ==== Pre_ok.lean ====
abbrev S2x7x65536 : Shape := ⟨3, ![2, 7, 65536]⟩
abbrev S2x1x65536x7 : Shape := ⟨4, ![2, 1, 65536, 7]⟩
abbrev S2x2x65536x7 : Shape := ⟨4, ![2, 2, 65536, 7]⟩
abbrev S2x2x2x65536x7 : Shape := ⟨5, ![2, 2, 2, 65536, 7]⟩
abbrev S9x65536 : Shape := ⟨2, ![9, 65536]⟩
abbrev S256x256 : Shape := ⟨2, ![256, 256]⟩
abbrev S1x65536 : Shape := ⟨2, ![1, 65536]⟩
abbrev S65536 : Shape := ⟨1, ![65536]⟩
abbrev S_ : Shape := ⟨0, ![]⟩

class Facts : Prop where
  slices_S9x65536_S1x65536_0_0 : S9x65536.Slices ![0, 0] S1x65536
  shapeCasts_S1x65536_S65536 : S1x65536.ShapeCasts S65536
  shapeCasts_S65536_S256x256 : S65536.ShapeCasts S256x256
  bcast_S_S256x256 : S_.BroadcastsInDim S256x256 (![] : Fin 0 → Fin S256x256.rank)
  slices_S9x65536_S1x65536_1_0 : S9x65536.Slices ![1, 0] S1x65536
  slices_S9x65536_S1x65536_2_0 : S9x65536.Slices ![2, 0] S1x65536
  slices_S9x65536_S1x65536_3_0 : S9x65536.Slices ![3, 0] S1x65536
  slices_S9x65536_S1x65536_4_0 : S9x65536.Slices ![4, 0] S1x65536
  slices_S9x65536_S1x65536_5_0 : S9x65536.Slices ![5, 0] S1x65536
  slices_S9x65536_S1x65536_6_0 : S9x65536.Slices ![6, 0] S1x65536
  slices_S9x65536_S1x65536_7_0 : S9x65536.Slices ![7, 0] S1x65536
  slices_S9x65536_S1x65536_8_0 : S9x65536.Slices ![8, 0] S1x65536
  bcast_S_S2x7x65536 : S_.BroadcastsInDim S2x7x65536 (![] : Fin 0 → Fin S2x7x65536.rank)
  bcast_S_S2x1x65536x7 : S_.BroadcastsInDim S2x1x65536x7 (![] : Fin 0 → Fin S2x1x65536x7.rank)
  bcast_S_S2x2x65536x7 : S_.BroadcastsInDim S2x2x65536x7 (![] : Fin 0 → Fin S2x2x65536x7.rank)
  bcast_S_S2x2x2x65536x7 : S_.BroadcastsInDim S2x2x2x65536x7 (![] : Fin 0 → Fin S2x2x2x65536x7.rank)

variable [Facts]

def fn_part8 {F : FTy → Type} [FloatOps F] (main_arg3 : FVec F S2x2x2x65536x7 .f32) (main_arg4 : FVec F S2x1x65536x7 .f32) (main_v16 : IVec S256x256 1) (main_v31 : IVec S256x256 1) (main_v46 : IVec S256x256 1) (main_v61 : IVec S256x256 1) (main_v76 : IVec S256x256 1) (main_v91 : IVec S256x256 1) (main_v106 : IVec S256x256 1) (main_v121 : IVec S256x256 1) (main_v136 : IVec S256x256 1) (main_v139 : IVec S2x7x65536 1) (main_v142 : IVec S2x1x65536x7 1) (main_v143 : FVec F S2x2x65536x7 .f32) (main_cst_45 : FVec F S_ .f32) : IVec S2x7x65536 1 × IVec S2x1x65536x7 1 × IVec S2x2x65536x7 1 × IVec S2x2x2x65536x7 1 × IVec S2x1x65536x7 1 × IVec S256x256 1 × IVec S256x256 1 × IVec S256x256 1 × IVec S256x256 1 × IVec S256x256 1 × IVec S256x256 1 × IVec S256x256 1 × IVec S256x256 1 × IVec S256x256 1 :=
  let main_v144 : FVec F S2x2x65536x7 .f32 := broadcastInDim S2x2x65536x7 ![] bcast_S_S2x2x65536x7 main_cst_45
  let main_v145 : IVec S2x2x65536x7 1 := cmpf .olt main_v143 main_v144
  let main_v146 : FVec F S2x2x2x65536x7 .f32 := Host.absf main_arg3
  let main_cst_46 : FVec F S_ .f32 := constant S_ .f32 0x7F800000#32
  let main_v147 : FVec F S2x2x2x65536x7 .f32 := broadcastInDim S2x2x2x65536x7 ![] bcast_S_S2x2x2x65536x7 main_cst_46
  let main_v148 : IVec S2x2x2x65536x7 1 := cmpf .olt main_v146 main_v147
  let main_cst_47 : FVec F S_ .f32 := constant S_ .f32 0x00000000#32
  let main_v149 : FVec F S2x1x65536x7 .f32 := broadcastInDim S2x1x65536x7 ![] bcast_S_S2x1x65536x7 main_cst_47
  let main_v150 : IVec S2x1x65536x7 1 := cmpf .une main_arg4 main_v149
  (main_v139, main_v142, main_v145, main_v148, main_v150, main_v16, main_v31, main_v46, main_v61, main_v76, main_v91, main_v106, main_v121, main_v136)

def fn_part7 {F : FTy → Type} [FloatOps F] (main_arg0 : FVec F S2x7x65536 .f32) (main_arg1 : FVec F S2x1x65536x7 .f32) (main_arg2 : FVec F S2x2x65536x7 .f32) (main_arg3 : FVec F S2x2x2x65536x7 .f32) (main_arg4 : FVec F S2x1x65536x7 .f32) (main_v1 : IVec S256x256 32) (main_v16 : IVec S256x256 1) (main_v31 : IVec S256x256 1) (main_v46 : IVec S256x256 1) (main_v61 : IVec S256x256 1) (main_v76 : IVec S256x256 1) (main_v91 : IVec S256x256 1) (main_v106 : IVec S256x256 1) (main_v121 : IVec S256x256 1) (main_v124 : IVec S256x256 32) (main_v126 : IVec S256x256 32) : IVec S2x7x65536 1 × IVec S2x1x65536x7 1 × IVec S2x2x65536x7 1 × IVec S2x2x2x65536x7 1 × IVec S2x1x65536x7 1 × IVec S256x256 1 × IVec S256x256 1 × IVec S256x256 1 × IVec S256x256 1 × IVec S256x256 1 × IVec S256x256 1 × IVec S256x256 1 × IVec S256x256 1 × IVec S256x256 1 :=
  let main_c_40 : IVec S_ 32 := constantI S_ 32 256#32
  let main_v127 : IVec S256x256 32 := broadcastInDim S256x256 ![] bcast_S_S256x256 main_c_40
  let main_v128 : IVec S256x256 32 := Host.remsi main_v126 main_v127
  let main_c_41 : IVec S_ 32 := constantI S_ 32 256#32
  let main_v129 : IVec S256x256 32 := broadcastInDim S256x256 ![] bcast_S_S256x256 main_c_41
  let main_v130 : IVec S256x256 32 := muli main_v128 main_v129
  let main_c_42 : IVec S_ 32 := constantI S_ 32 255#32
  let main_v131 : IVec S256x256 32 := broadcastInDim S256x256 ![] bcast_S_S256x256 main_c_42
  let main_v132 : IVec S256x256 32 := addi main_v1 main_v131
  let main_c_43 : IVec S_ 32 := constantI S_ 32 256#32
  let main_v133 : IVec S256x256 32 := broadcastInDim S256x256 ![] bcast_S_S256x256 main_c_43
  let main_v134 : IVec S256x256 32 := Host.remsi main_v132 main_v133
  let main_v135 : IVec S256x256 32 := addi main_v130 main_v134
  let main_v136 : IVec S256x256 1 := cmpi .eq main_v124 main_v135
  let main_v137 : FVec F S2x7x65536 .f32 := Host.absf main_arg0
  let main_cst : FVec F S_ .f32 := constant S_ .f32 0x7F800000#32
  let main_v138 : FVec F S2x7x65536 .f32 := broadcastInDim S2x7x65536 ![] bcast_S_S2x7x65536 main_cst
  let main_v139 : IVec S2x7x65536 1 := cmpf .olt main_v137 main_v138
  let main_v140 : FVec F S2x1x65536x7 .f32 := Host.absf main_arg1
  let main_cst_44 : FVec F S_ .f32 := constant S_ .f32 0x7F800000#32
  let main_v141 : FVec F S2x1x65536x7 .f32 := broadcastInDim S2x1x65536x7 ![] bcast_S_S2x1x65536x7 main_cst_44
  let main_v142 : IVec S2x1x65536x7 1 := cmpf .olt main_v140 main_v141
  let main_v143 : FVec F S2x2x65536x7 .f32 := Host.absf main_arg2
  let main_cst_45 : FVec F S_ .f32 := constant S_ .f32 0x7F800000#32
  fn_part8 (F := F) main_arg3 main_arg4 main_v16 main_v31 main_v46 main_v61 main_v76 main_v91 main_v106 main_v121 main_v136 main_v139 main_v142 main_v143 main_cst_45

def fn_part6 {F : FTy → Type} [FloatOps F] (main_arg0 : FVec F S2x7x65536 .f32) (main_arg1 : FVec F S2x1x65536x7 .f32) (main_arg2 : FVec F S2x2x65536x7 .f32) (main_arg3 : FVec F S2x2x2x65536x7 .f32) (main_arg4 : FVec F S2x1x65536x7 .f32) (main_arg5 : IVec S9x65536 32) (main_v0 : IVec S256x256 32) (main_v1 : IVec S256x256 32) (main_v16 : IVec S256x256 1) (main_v31 : IVec S256x256 1) (main_v46 : IVec S256x256 1) (main_v61 : IVec S256x256 1) (main_v76 : IVec S256x256 1) (main_v91 : IVec S256x256 1) (main_v106 : IVec S256x256 1) (main_v108 : IVec S65536 32) : IVec S2x7x65536 1 × IVec S2x1x65536x7 1 × IVec S2x2x65536x7 1 × IVec S2x2x2x65536x7 1 × IVec S2x1x65536x7 1 × IVec S256x256 1 × IVec S256x256 1 × IVec S256x256 1 × IVec S256x256 1 × IVec S256x256 1 × IVec S256x256 1 × IVec S256x256 1 × IVec S256x256 1 × IVec S256x256 1 :=
  let main_v109 : IVec S256x256 32 := shapeCast S256x256 main_v108 shapeCasts_S65536_S256x256
  let main_c_34 : IVec S_ 32 := constantI S_ 32 257#32
  let main_v110 : IVec S256x256 32 := broadcastInDim S256x256 ![] bcast_S_S256x256 main_c_34
  let main_v111 : IVec S256x256 32 := addi main_v0 main_v110
  let main_c_35 : IVec S_ 32 := constantI S_ 32 256#32
  let main_v112 : IVec S256x256 32 := broadcastInDim S256x256 ![] bcast_S_S256x256 main_c_35
  let main_v113 : IVec S256x256 32 := Host.remsi main_v111 main_v112
  let main_c_36 : IVec S_ 32 := constantI S_ 32 256#32
  let main_v114 : IVec S256x256 32 := broadcastInDim S256x256 ![] bcast_S_S256x256 main_c_36
  let main_v115 : IVec S256x256 32 := muli main_v113 main_v114
  let main_c_37 : IVec S_ 32 := constantI S_ 32 257#32
  let main_v116 : IVec S256x256 32 := broadcastInDim S256x256 ![] bcast_S_S256x256 main_c_37
  let main_v117 : IVec S256x256 32 := addi main_v1 main_v116
  let main_c_38 : IVec S_ 32 := constantI S_ 32 256#32
  let main_v118 : IVec S256x256 32 := broadcastInDim S256x256 ![] bcast_S_S256x256 main_c_38
  let main_v119 : IVec S256x256 32 := Host.remsi main_v117 main_v118
  let main_v120 : IVec S256x256 32 := addi main_v115 main_v119
  let main_v121 : IVec S256x256 1 := cmpi .eq main_v109 main_v120
  let main_v122 : IVec S1x65536 32 := (extractStridedSlice S1x65536 ![8, 0] · slices_S9x65536_S1x65536_8_0) main_arg5
  let main_v123 : IVec S65536 32 := shapeCast S65536 main_v122 shapeCasts_S1x65536_S65536
  let main_v124 : IVec S256x256 32 := shapeCast S256x256 main_v123 shapeCasts_S65536_S256x256
  let main_c_39 : IVec S_ 32 := constantI S_ 32 257#32
  let main_v125 : IVec S256x256 32 := broadcastInDim S256x256 ![] bcast_S_S256x256 main_c_39
  let main_v126 : IVec S256x256 32 := addi main_v0 main_v125
  fn_part7 (F := F) main_arg0 main_arg1 main_arg2 main_arg3 main_arg4 main_v1 main_v16 main_v31 main_v46 main_v61 main_v76 main_v91 main_v106 main_v121 main_v124 main_v126

def fn_part5 {F : FTy → Type} [FloatOps F] (main_arg0 : FVec F S2x7x65536 .f32) (main_arg1 : FVec F S2x1x65536x7 .f32) (main_arg2 : FVec F S2x2x65536x7 .f32) (main_arg3 : FVec F S2x2x2x65536x7 .f32) (main_arg4 : FVec F S2x1x65536x7 .f32) (main_arg5 : IVec S9x65536 32) (main_v0 : IVec S256x256 32) (main_v1 : IVec S256x256 32) (main_v16 : IVec S256x256 1) (main_v31 : IVec S256x256 1) (main_v46 : IVec S256x256 1) (main_v61 : IVec S256x256 1) (main_v76 : IVec S256x256 1) (main_v79 : IVec S256x256 32) (main_v85 : IVec S256x256 32) (main_v89 : IVec S256x256 32) : IVec S2x7x65536 1 × IVec S2x1x65536x7 1 × IVec S2x2x65536x7 1 × IVec S2x2x2x65536x7 1 × IVec S2x1x65536x7 1 × IVec S256x256 1 × IVec S256x256 1 × IVec S256x256 1 × IVec S256x256 1 × IVec S256x256 1 × IVec S256x256 1 × IVec S256x256 1 × IVec S256x256 1 × IVec S256x256 1 :=
  let main_v90 : IVec S256x256 32 := addi main_v85 main_v89
  let main_v91 : IVec S256x256 1 := cmpi .eq main_v79 main_v90
  let main_v92 : IVec S1x65536 32 := (extractStridedSlice S1x65536 ![6, 0] · slices_S9x65536_S1x65536_6_0) main_arg5
  let main_v93 : IVec S65536 32 := shapeCast S65536 main_v92 shapeCasts_S1x65536_S65536
  let main_v94 : IVec S256x256 32 := shapeCast S256x256 main_v93 shapeCasts_S65536_S256x256
  let main_c_29 : IVec S_ 32 := constantI S_ 32 255#32
  let main_v95 : IVec S256x256 32 := broadcastInDim S256x256 ![] bcast_S_S256x256 main_c_29
  let main_v96 : IVec S256x256 32 := addi main_v0 main_v95
  let main_c_30 : IVec S_ 32 := constantI S_ 32 256#32
  let main_v97 : IVec S256x256 32 := broadcastInDim S256x256 ![] bcast_S_S256x256 main_c_30
  let main_v98 : IVec S256x256 32 := Host.remsi main_v96 main_v97
  let main_c_31 : IVec S_ 32 := constantI S_ 32 256#32
  let main_v99 : IVec S256x256 32 := broadcastInDim S256x256 ![] bcast_S_S256x256 main_c_31
  let main_v100 : IVec S256x256 32 := muli main_v98 main_v99
  let main_c_32 : IVec S_ 32 := constantI S_ 32 255#32
  let main_v101 : IVec S256x256 32 := broadcastInDim S256x256 ![] bcast_S_S256x256 main_c_32
  let main_v102 : IVec S256x256 32 := addi main_v1 main_v101
  let main_c_33 : IVec S_ 32 := constantI S_ 32 256#32
  let main_v103 : IVec S256x256 32 := broadcastInDim S256x256 ![] bcast_S_S256x256 main_c_33
  let main_v104 : IVec S256x256 32 := Host.remsi main_v102 main_v103
  let main_v105 : IVec S256x256 32 := addi main_v100 main_v104
  let main_v106 : IVec S256x256 1 := cmpi .eq main_v94 main_v105
  let main_v107 : IVec S1x65536 32 := (extractStridedSlice S1x65536 ![7, 0] · slices_S9x65536_S1x65536_7_0) main_arg5
  let main_v108 : IVec S65536 32 := shapeCast S65536 main_v107 shapeCasts_S1x65536_S65536
  fn_part6 (F := F) main_arg0 main_arg1 main_arg2 main_arg3 main_arg4 main_arg5 main_v0 main_v1 main_v16 main_v31 main_v46 main_v61 main_v76 main_v91 main_v106 main_v108

def fn_part4 {F : FTy → Type} [FloatOps F] (main_arg0 : FVec F S2x7x65536 .f32) (main_arg1 : FVec F S2x1x65536x7 .f32) (main_arg2 : FVec F S2x2x65536x7 .f32) (main_arg3 : FVec F S2x2x2x65536x7 .f32) (main_arg4 : FVec F S2x1x65536x7 .f32) (main_arg5 : IVec S9x65536 32) (main_v0 : IVec S256x256 32) (main_v1 : IVec S256x256 32) (main_v16 : IVec S256x256 1) (main_v31 : IVec S256x256 1) (main_v46 : IVec S256x256 1) (main_v61 : IVec S256x256 1) (main_v64 : IVec S256x256 32) (main_v70 : IVec S256x256 32) (main_v71 : IVec S256x256 32) : IVec S2x7x65536 1 × IVec S2x1x65536x7 1 × IVec S2x2x65536x7 1 × IVec S2x2x2x65536x7 1 × IVec S2x1x65536x7 1 × IVec S256x256 1 × IVec S256x256 1 × IVec S256x256 1 × IVec S256x256 1 × IVec S256x256 1 × IVec S256x256 1 × IVec S256x256 1 × IVec S256x256 1 × IVec S256x256 1 :=
  let main_v72 : IVec S256x256 32 := addi main_v1 main_v71
  let main_c_23 : IVec S_ 32 := constantI S_ 32 256#32
  let main_v73 : IVec S256x256 32 := broadcastInDim S256x256 ![] bcast_S_S256x256 main_c_23
  let main_v74 : IVec S256x256 32 := Host.remsi main_v72 main_v73
  let main_v75 : IVec S256x256 32 := addi main_v70 main_v74
  let main_v76 : IVec S256x256 1 := cmpi .eq main_v64 main_v75
  let main_v77 : IVec S1x65536 32 := (extractStridedSlice S1x65536 ![5, 0] · slices_S9x65536_S1x65536_5_0) main_arg5
  let main_v78 : IVec S65536 32 := shapeCast S65536 main_v77 shapeCasts_S1x65536_S65536
  let main_v79 : IVec S256x256 32 := shapeCast S256x256 main_v78 shapeCasts_S65536_S256x256
  let main_c_24 : IVec S_ 32 := constantI S_ 32 255#32
  let main_v80 : IVec S256x256 32 := broadcastInDim S256x256 ![] bcast_S_S256x256 main_c_24
  let main_v81 : IVec S256x256 32 := addi main_v0 main_v80
  let main_c_25 : IVec S_ 32 := constantI S_ 32 256#32
  let main_v82 : IVec S256x256 32 := broadcastInDim S256x256 ![] bcast_S_S256x256 main_c_25
  let main_v83 : IVec S256x256 32 := Host.remsi main_v81 main_v82
  let main_c_26 : IVec S_ 32 := constantI S_ 32 256#32
  let main_v84 : IVec S256x256 32 := broadcastInDim S256x256 ![] bcast_S_S256x256 main_c_26
  let main_v85 : IVec S256x256 32 := muli main_v83 main_v84
  let main_c_27 : IVec S_ 32 := constantI S_ 32 257#32
  let main_v86 : IVec S256x256 32 := broadcastInDim S256x256 ![] bcast_S_S256x256 main_c_27
  let main_v87 : IVec S256x256 32 := addi main_v1 main_v86
  let main_c_28 : IVec S_ 32 := constantI S_ 32 256#32
  let main_v88 : IVec S256x256 32 := broadcastInDim S256x256 ![] bcast_S_S256x256 main_c_28
  let main_v89 : IVec S256x256 32 := Host.remsi main_v87 main_v88
  fn_part5 (F := F) main_arg0 main_arg1 main_arg2 main_arg3 main_arg4 main_arg5 main_v0 main_v1 main_v16 main_v31 main_v46 main_v61 main_v76 main_v79 main_v85 main_v89

def fn_part3 {F : FTy → Type} [FloatOps F] (main_arg0 : FVec F S2x7x65536 .f32) (main_arg1 : FVec F S2x1x65536x7 .f32) (main_arg2 : FVec F S2x2x65536x7 .f32) (main_arg3 : FVec F S2x2x2x65536x7 .f32) (main_arg4 : FVec F S2x1x65536x7 .f32) (main_arg5 : IVec S9x65536 32) (main_v0 : IVec S256x256 32) (main_v1 : IVec S256x256 32) (main_v16 : IVec S256x256 1) (main_v31 : IVec S256x256 1) (main_v46 : IVec S256x256 1) (main_v49 : IVec S256x256 32) (main_v53 : IVec S256x256 32) (main_c_16 : IVec S_ 32) : IVec S2x7x65536 1 × IVec S2x1x65536x7 1 × IVec S2x2x65536x7 1 × IVec S2x2x2x65536x7 1 × IVec S2x1x65536x7 1 × IVec S256x256 1 × IVec S256x256 1 × IVec S256x256 1 × IVec S256x256 1 × IVec S256x256 1 × IVec S256x256 1 × IVec S256x256 1 × IVec S256x256 1 × IVec S256x256 1 :=
  let main_v54 : IVec S256x256 32 := broadcastInDim S256x256 ![] bcast_S_S256x256 main_c_16
  let main_v55 : IVec S256x256 32 := muli main_v53 main_v54
  let main_c_17 : IVec S_ 32 := constantI S_ 32 256#32
  let main_v56 : IVec S256x256 32 := broadcastInDim S256x256 ![] bcast_S_S256x256 main_c_17
  let main_v57 : IVec S256x256 32 := addi main_v1 main_v56
  let main_c_18 : IVec S_ 32 := constantI S_ 32 256#32
  let main_v58 : IVec S256x256 32 := broadcastInDim S256x256 ![] bcast_S_S256x256 main_c_18
  let main_v59 : IVec S256x256 32 := Host.remsi main_v57 main_v58
  let main_v60 : IVec S256x256 32 := addi main_v55 main_v59
  let main_v61 : IVec S256x256 1 := cmpi .eq main_v49 main_v60
  let main_v62 : IVec S1x65536 32 := (extractStridedSlice S1x65536 ![4, 0] · slices_S9x65536_S1x65536_4_0) main_arg5
  let main_v63 : IVec S65536 32 := shapeCast S65536 main_v62 shapeCasts_S1x65536_S65536
  let main_v64 : IVec S256x256 32 := shapeCast S256x256 main_v63 shapeCasts_S65536_S256x256
  let main_c_19 : IVec S_ 32 := constantI S_ 32 257#32
  let main_v65 : IVec S256x256 32 := broadcastInDim S256x256 ![] bcast_S_S256x256 main_c_19
  let main_v66 : IVec S256x256 32 := addi main_v0 main_v65
  let main_c_20 : IVec S_ 32 := constantI S_ 32 256#32
  let main_v67 : IVec S256x256 32 := broadcastInDim S256x256 ![] bcast_S_S256x256 main_c_20
  let main_v68 : IVec S256x256 32 := Host.remsi main_v66 main_v67
  let main_c_21 : IVec S_ 32 := constantI S_ 32 256#32
  let main_v69 : IVec S256x256 32 := broadcastInDim S256x256 ![] bcast_S_S256x256 main_c_21
  let main_v70 : IVec S256x256 32 := muli main_v68 main_v69
  let main_c_22 : IVec S_ 32 := constantI S_ 32 256#32
  let main_v71 : IVec S256x256 32 := broadcastInDim S256x256 ![] bcast_S_S256x256 main_c_22
  fn_part4 (F := F) main_arg0 main_arg1 main_arg2 main_arg3 main_arg4 main_arg5 main_v0 main_v1 main_v16 main_v31 main_v46 main_v61 main_v64 main_v70 main_v71

def fn_part2 {F : FTy → Type} [FloatOps F] (main_arg0 : FVec F S2x7x65536 .f32) (main_arg1 : FVec F S2x1x65536x7 .f32) (main_arg2 : FVec F S2x2x65536x7 .f32) (main_arg3 : FVec F S2x2x2x65536x7 .f32) (main_arg4 : FVec F S2x1x65536x7 .f32) (main_arg5 : IVec S9x65536 32) (main_v0 : IVec S256x256 32) (main_v1 : IVec S256x256 32) (main_v16 : IVec S256x256 1) (main_v31 : IVec S256x256 1) (main_v34 : IVec S256x256 32) (main_v36 : IVec S256x256 32) : IVec S2x7x65536 1 × IVec S2x1x65536x7 1 × IVec S2x2x65536x7 1 × IVec S2x2x2x65536x7 1 × IVec S2x1x65536x7 1 × IVec S256x256 1 × IVec S256x256 1 × IVec S256x256 1 × IVec S256x256 1 × IVec S256x256 1 × IVec S256x256 1 × IVec S256x256 1 × IVec S256x256 1 × IVec S256x256 1 :=
  let main_c_10 : IVec S_ 32 := constantI S_ 32 256#32
  let main_v37 : IVec S256x256 32 := broadcastInDim S256x256 ![] bcast_S_S256x256 main_c_10
  let main_v38 : IVec S256x256 32 := Host.remsi main_v36 main_v37
  let main_c_11 : IVec S_ 32 := constantI S_ 32 256#32
  let main_v39 : IVec S256x256 32 := broadcastInDim S256x256 ![] bcast_S_S256x256 main_c_11
  let main_v40 : IVec S256x256 32 := muli main_v38 main_v39
  let main_c_12 : IVec S_ 32 := constantI S_ 32 255#32
  let main_v41 : IVec S256x256 32 := broadcastInDim S256x256 ![] bcast_S_S256x256 main_c_12
  let main_v42 : IVec S256x256 32 := addi main_v1 main_v41
  let main_c_13 : IVec S_ 32 := constantI S_ 32 256#32
  let main_v43 : IVec S256x256 32 := broadcastInDim S256x256 ![] bcast_S_S256x256 main_c_13
  let main_v44 : IVec S256x256 32 := Host.remsi main_v42 main_v43
  let main_v45 : IVec S256x256 32 := addi main_v40 main_v44
  let main_v46 : IVec S256x256 1 := cmpi .eq main_v34 main_v45
  let main_v47 : IVec S1x65536 32 := (extractStridedSlice S1x65536 ![3, 0] · slices_S9x65536_S1x65536_3_0) main_arg5
  let main_v48 : IVec S65536 32 := shapeCast S65536 main_v47 shapeCasts_S1x65536_S65536
  let main_v49 : IVec S256x256 32 := shapeCast S256x256 main_v48 shapeCasts_S65536_S256x256
  let main_c_14 : IVec S_ 32 := constantI S_ 32 255#32
  let main_v50 : IVec S256x256 32 := broadcastInDim S256x256 ![] bcast_S_S256x256 main_c_14
  let main_v51 : IVec S256x256 32 := addi main_v0 main_v50
  let main_c_15 : IVec S_ 32 := constantI S_ 32 256#32
  let main_v52 : IVec S256x256 32 := broadcastInDim S256x256 ![] bcast_S_S256x256 main_c_15
  let main_v53 : IVec S256x256 32 := Host.remsi main_v51 main_v52
  let main_c_16 : IVec S_ 32 := constantI S_ 32 256#32
  fn_part3 (F := F) main_arg0 main_arg1 main_arg2 main_arg3 main_arg4 main_arg5 main_v0 main_v1 main_v16 main_v31 main_v46 main_v49 main_v53 main_c_16

def fn_part1 {F : FTy → Type} [FloatOps F] (main_arg0 : FVec F S2x7x65536 .f32) (main_arg1 : FVec F S2x1x65536x7 .f32) (main_arg2 : FVec F S2x2x65536x7 .f32) (main_arg3 : FVec F S2x2x2x65536x7 .f32) (main_arg4 : FVec F S2x1x65536x7 .f32) (main_arg5 : IVec S9x65536 32) (main_v0 : IVec S256x256 32) (main_v1 : IVec S256x256 32) (main_v16 : IVec S256x256 1) (main_v18 : IVec S65536 32) : IVec S2x7x65536 1 × IVec S2x1x65536x7 1 × IVec S2x2x65536x7 1 × IVec S2x2x2x65536x7 1 × IVec S2x1x65536x7 1 × IVec S256x256 1 × IVec S256x256 1 × IVec S256x256 1 × IVec S256x256 1 × IVec S256x256 1 × IVec S256x256 1 × IVec S256x256 1 × IVec S256x256 1 × IVec S256x256 1 :=
  let main_v19 : IVec S256x256 32 := shapeCast S256x256 main_v18 shapeCasts_S65536_S256x256
  let main_c_4 : IVec S_ 32 := constantI S_ 32 256#32
  let main_v20 : IVec S256x256 32 := broadcastInDim S256x256 ![] bcast_S_S256x256 main_c_4
  let main_v21 : IVec S256x256 32 := addi main_v0 main_v20
  let main_c_5 : IVec S_ 32 := constantI S_ 32 256#32
  let main_v22 : IVec S256x256 32 := broadcastInDim S256x256 ![] bcast_S_S256x256 main_c_5
  let main_v23 : IVec S256x256 32 := Host.remsi main_v21 main_v22
  let main_c_6 : IVec S_ 32 := constantI S_ 32 256#32
  let main_v24 : IVec S256x256 32 := broadcastInDim S256x256 ![] bcast_S_S256x256 main_c_6
  let main_v25 : IVec S256x256 32 := muli main_v23 main_v24
  let main_c_7 : IVec S_ 32 := constantI S_ 32 257#32
  let main_v26 : IVec S256x256 32 := broadcastInDim S256x256 ![] bcast_S_S256x256 main_c_7
  let main_v27 : IVec S256x256 32 := addi main_v1 main_v26
  let main_c_8 : IVec S_ 32 := constantI S_ 32 256#32
  let main_v28 : IVec S256x256 32 := broadcastInDim S256x256 ![] bcast_S_S256x256 main_c_8
  let main_v29 : IVec S256x256 32 := Host.remsi main_v27 main_v28
  let main_v30 : IVec S256x256 32 := addi main_v25 main_v29
  let main_v31 : IVec S256x256 1 := cmpi .eq main_v19 main_v30
  let main_v32 : IVec S1x65536 32 := (extractStridedSlice S1x65536 ![2, 0] · slices_S9x65536_S1x65536_2_0) main_arg5
  let main_v33 : IVec S65536 32 := shapeCast S65536 main_v32 shapeCasts_S1x65536_S65536
  let main_v34 : IVec S256x256 32 := shapeCast S256x256 main_v33 shapeCasts_S65536_S256x256
  let main_c_9 : IVec S_ 32 := constantI S_ 32 256#32
  let main_v35 : IVec S256x256 32 := broadcastInDim S256x256 ![] bcast_S_S256x256 main_c_9
  let main_v36 : IVec S256x256 32 := addi main_v0 main_v35
  fn_part2 (F := F) main_arg0 main_arg1 main_arg2 main_arg3 main_arg4 main_arg5 main_v0 main_v1 main_v16 main_v31 main_v34 main_v36

def fn {F : FTy → Type} [FloatOps F] (main_arg0 : FVec F S2x7x65536 .f32) (main_arg1 : FVec F S2x1x65536x7 .f32) (main_arg2 : FVec F S2x2x65536x7 .f32) (main_arg3 : FVec F S2x2x2x65536x7 .f32) (main_arg4 : FVec F S2x1x65536x7 .f32) (main_arg5 : IVec S9x65536 32) : IVec S2x7x65536 1 × IVec S2x1x65536x7 1 × IVec S2x2x65536x7 1 × IVec S2x2x2x65536x7 1 × IVec S2x1x65536x7 1 × IVec S256x256 1 × IVec S256x256 1 × IVec S256x256 1 × IVec S256x256 1 × IVec S256x256 1 × IVec S256x256 1 × IVec S256x256 1 × IVec S256x256 1 × IVec S256x256 1 :=
  let main_v0 : IVec S256x256 32 := iotaInDim S256x256 32 0
  let main_v1 : IVec S256x256 32 := iotaInDim S256x256 32 1
  let main_v2 : IVec S1x65536 32 := (extractStridedSlice S1x65536 ![0, 0] · slices_S9x65536_S1x65536_0_0) main_arg5
  let main_v3 : IVec S65536 32 := shapeCast S65536 main_v2 shapeCasts_S1x65536_S65536
  let main_v4 : IVec S256x256 32 := shapeCast S256x256 main_v3 shapeCasts_S65536_S256x256
  let main_c : IVec S_ 32 := constantI S_ 32 256#32
  let main_v5 : IVec S256x256 32 := broadcastInDim S256x256 ![] bcast_S_S256x256 main_c
  let main_v6 : IVec S256x256 32 := addi main_v0 main_v5
  let main_c_0 : IVec S_ 32 := constantI S_ 32 256#32
  let main_v7 : IVec S256x256 32 := broadcastInDim S256x256 ![] bcast_S_S256x256 main_c_0
  let main_v8 : IVec S256x256 32 := Host.remsi main_v6 main_v7
  let main_c_1 : IVec S_ 32 := constantI S_ 32 256#32
  let main_v9 : IVec S256x256 32 := broadcastInDim S256x256 ![] bcast_S_S256x256 main_c_1
  let main_v10 : IVec S256x256 32 := muli main_v8 main_v9
  let main_c_2 : IVec S_ 32 := constantI S_ 32 256#32
  let main_v11 : IVec S256x256 32 := broadcastInDim S256x256 ![] bcast_S_S256x256 main_c_2
  let main_v12 : IVec S256x256 32 := addi main_v1 main_v11
  let main_c_3 : IVec S_ 32 := constantI S_ 32 256#32
  let main_v13 : IVec S256x256 32 := broadcastInDim S256x256 ![] bcast_S_S256x256 main_c_3
  let main_v14 : IVec S256x256 32 := Host.remsi main_v12 main_v13
  let main_v15 : IVec S256x256 32 := addi main_v10 main_v14
  let main_v16 : IVec S256x256 1 := cmpi .eq main_v4 main_v15
  let main_v17 : IVec S1x65536 32 := (extractStridedSlice S1x65536 ![1, 0] · slices_S9x65536_S1x65536_1_0) main_arg5
  let main_v18 : IVec S65536 32 := shapeCast S65536 main_v17 shapeCasts_S1x65536_S65536
  fn_part1 (F := F) main_arg0 main_arg1 main_arg2 main_arg3 main_arg4 main_arg5 main_v0 main_v1 main_v16 main_v18
-- ==== Kernel.lean ====
abbrev S2x7x65536 : Shape := ⟨3, ![2, 7, 65536]⟩
abbrev S2x1x65536x7 : Shape := ⟨4, ![2, 1, 65536, 7]⟩
abbrev S2x2x65536x7 : Shape := ⟨4, ![2, 2, 65536, 7]⟩
abbrev S2x2x2x65536x7 : Shape := ⟨5, ![2, 2, 2, 65536, 7]⟩
abbrev S9x65536 : Shape := ⟨2, ![9, 65536]⟩
abbrev S7x2x65536 : Shape := ⟨3, ![7, 2, 65536]⟩
abbrev S7x2x256x256 : Shape := ⟨4, ![7, 2, 256, 256]⟩
abbrev S2x7x1x65536 : Shape := ⟨4, ![2, 7, 1, 65536]⟩
abbrev S2x7x512x128 : Shape := ⟨4, ![2, 7, 512, 128]⟩
abbrev S2x7x2x65536 : Shape := ⟨4, ![2, 7, 2, 65536]⟩
abbrev S2x7x2x512x128 : Shape := ⟨5, ![2, 7, 2, 512, 128]⟩
abbrev S2x7x512x2x128 : Shape := ⟨5, ![2, 7, 512, 2, 128]⟩
abbrev S2x7x1024x128 : Shape := ⟨4, ![2, 7, 1024, 128]⟩
abbrev S2x2x7x2x65536 : Shape := ⟨5, ![2, 2, 7, 2, 65536]⟩
abbrev S2x2x7x2x512x128 : Shape := ⟨6, ![2, 2, 7, 2, 512, 128]⟩
abbrev S2x2x7x512x2x128 : Shape := ⟨6, ![2, 2, 7, 512, 2, 128]⟩
abbrev S2x2x7x1024x128 : Shape := ⟨5, ![2, 2, 7, 1024, 128]⟩
abbrev S2x7x256x256 : Shape := ⟨4, ![2, 7, 256, 256]⟩
abbrev S7x1x256x256 : Shape := ⟨4, ![7, 1, 256, 256]⟩
abbrev S1x1x512x128 : Shape := ⟨4, ![1, 1, 512, 128]⟩
abbrev S1x1x1024x128 : Shape := ⟨4, ![1, 1, 1024, 128]⟩
abbrev S1x2x1x1024x128 : Shape := ⟨5, ![1, 2, 1, 1024, 128]⟩
abbrev S1x1x256x256 : Shape := ⟨4, ![1, 1, 256, 256]⟩
abbrev S256x256 : Shape := ⟨2, ![256, 256]⟩
abbrev S512x128 : Shape := ⟨2, ![512, 128]⟩
abbrev S1024x128 : Shape := ⟨2, ![1024, 128]⟩
abbrev S256x2x2x128 : Shape := ⟨4, ![256, 2, 2, 128]⟩
abbrev S256x2x1x128 : Shape := ⟨4, ![256, 2, 1, 128]⟩
abbrev S256x2x128 : Shape := ⟨3, ![256, 2, 128]⟩
abbrev S1x1x1x1024x128 : Shape := ⟨5, ![1, 1, 1, 1024, 128]⟩
abbrev S256x255 : Shape := ⟨2, ![256, 255]⟩
abbrev S256x1 : Shape := ⟨2, ![256, 1]⟩
abbrev S1x256 : Shape := ⟨2, ![1, 256]⟩
abbrev S255x256 : Shape := ⟨2, ![255, 256]⟩

abbrev nBuf : Space → Nat
  | .hbm => 22
  | .vmem => 13
  | .smem => 0
  | _ => 0

abbrev bufTy : (tb : Table) → Fin (tcTables nBuf tb) → BufTy
  | .hbm, ⟨0, _⟩ => ⟨S2x7x65536, .f32⟩
  | .hbm, ⟨1, _⟩ => ⟨S2x1x65536x7, .f32⟩
  | .hbm, ⟨2, _⟩ => ⟨S2x2x65536x7, .f32⟩
  | .hbm, ⟨3, _⟩ => ⟨S2x2x2x65536x7, .f32⟩
  | .hbm, ⟨4, _⟩ => ⟨S2x1x65536x7, .f32⟩
  | .hbm, ⟨5, _⟩ => ⟨S9x65536, .i32⟩
  | .hbm, ⟨6, _⟩ => ⟨S7x2x65536, .f32⟩
  | .hbm, ⟨7, _⟩ => ⟨S7x2x256x256, .f32⟩
  | .hbm, ⟨8, _⟩ => ⟨S2x7x1x65536, .f32⟩
  | .hbm, ⟨9, _⟩ => ⟨S2x7x512x128, .f32⟩
  | .hbm, ⟨10, _⟩ => ⟨S2x7x2x65536, .f32⟩
  | .hbm, ⟨11, _⟩ => ⟨S2x7x2x512x128, .f32⟩
  | .hbm, ⟨12, _⟩ => ⟨S2x7x512x2x128, .f32⟩
  | .hbm, ⟨13, _⟩ => ⟨S2x7x1024x128, .f32⟩
  | .hbm, ⟨14, _⟩ => ⟨S2x2x7x2x65536, .f32⟩
  | .hbm, ⟨15, _⟩ => ⟨S2x2x7x2x512x128, .f32⟩
  | .hbm, ⟨16, _⟩ => ⟨S2x2x7x512x2x128, .f32⟩
  | .hbm, ⟨17, _⟩ => ⟨S2x2x7x1024x128, .f32⟩
  | .hbm, ⟨18, _⟩ => ⟨S2x7x1x65536, .f32⟩
  | .hbm, ⟨19, _⟩ => ⟨S2x7x512x128, .f32⟩
  | .hbm, ⟨20, _⟩ => ⟨S2x7x256x256, .f32⟩
  | .hbm, ⟨21, _⟩ => ⟨S2x7x65536, .f32⟩
  | .local _ .vmem, ⟨0, _⟩ => ⟨S7x1x256x256, .f32⟩
  | .local _ .vmem, ⟨1, _⟩ => ⟨S7x1x256x256, .f32⟩
  | .local _ .vmem, ⟨2, _⟩ => ⟨S1x1x512x128, .f32⟩
  | .local _ .vmem, ⟨3, _⟩ => ⟨S1x1x512x128, .f32⟩
  | .local _ .vmem, ⟨4, _⟩ => ⟨S1x1x1024x128, .f32⟩
  | .local _ .vmem, ⟨5, _⟩ => ⟨S1x1x1024x128, .f32⟩
  | .local _ .vmem, ⟨6, _⟩ => ⟨S1x2x1x1024x128, .f32⟩
  | .local _ .vmem, ⟨7, _⟩ => ⟨S1x2x1x1024x128, .f32⟩
  | .local _ .vmem, ⟨8, _⟩ => ⟨S1x1x512x128, .f32⟩
  | .local _ .vmem, ⟨9, _⟩ => ⟨S1x1x512x128, .f32⟩
  | .local _ .vmem, ⟨10, _⟩ => ⟨S1x1x256x256, .f32⟩
  | .local _ .vmem, ⟨11, _⟩ => ⟨S1x1x256x256, .f32⟩
  | .local _ .vmem, ⟨12, _⟩ => ⟨S256x256, .f32⟩
  | _, _ => ⟨S2x7x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c7_i32 : BitVec 32 := 7#32
  let v0 : BitVec 1 := Scalar.cmpi .slt arg1 c7_i32
  let v1 : BitVec 32 := Scalar.extui v0
  let c0_i32 : BitVec 32 := 0#32
  let v2 : BitVec 1 := Scalar.cmpi .ne v1 c0_i32
  v2

def k0_off1 (i : grid0.Coords) : Fin 4 → Nat :=
  let arg1 : BitVec 32 := BitVec.ofNat 32 (i 1).val
  let v56 : Index := Scalar.indexCast arg1
  let c0_27 : Index := 0#32
  let c0_28 : Index := 0#32
  let c0_29 : Index := 0#32
  ![v56.toNat, 0, 0, 0]
def k0_off2 (i : grid0.Coords) : Fin 4 → Nat :=
  let arg1 : BitVec 32 := BitVec.ofNat 32 (i 1).val
  let c1_i32 : BitVec 32 := 1#32
  let v96 : BitVec 32 := Scalar.subi arg1 c1_i32
  let c0_i32_31 : BitVec 32 := 0#32
  let v97 : BitVec 32 := Scalar.maxsi v96 c0_i32_31
  let v98 : Index := Scalar.indexCast v97
  let c0_32 : Index := 0#32
  let c0_33 : Index := 0#32
  let c0_34 : Index := 0#32
  ![v98.toNat, 0, 0, 0]
def k0_cond2 (i : grid0.Coords) : BitVec 1 :=
  let arg1 : BitVec 32 := BitVec.ofNat 32 (i 1).val
  let c0_i32_35 : BitVec 32 := 0#32
  let v101 : BitVec 1 := Scalar.cmpi .sgt arg1 c0_i32_35
  let v102 : BitVec 32 := Scalar.extui v101
  let c0_i32_36 : BitVec 32 := 0#32
  let v103 : BitVec 1 := Scalar.cmpi .ne v102 c0_i32_36
  v103

def k0_cond3 (i : grid0.Coords) : BitVec 1 :=
  let arg1 : BitVec 32 := BitVec.ofNat 32 (i 1).val
  let c7_i32_0 : BitVec 32 := 7#32
  let v3 : BitVec 1 := Scalar.cmpi .eq arg1 c7_i32_0
  let v4 : BitVec 32 := Scalar.extui v3
  let c0_i32_1 : BitVec 32 := 0#32
  let v5 : BitVec 1 := Scalar.cmpi .ne v4 c0_i32_1
  v5

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c6_i32 : BitVec 32 := 6#32
  let v0 : BitVec 32 := Scalar.minsi arg1 c6_i32
  let c0_i32 : BitVec 32 := 0#32
  let c0_i32_0 : BitVec 32 := 0#32
  let c0_i32_1 : BitVec 32 := 0#32
  ![arg0.toNat, v0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c6_i32 : BitVec 32 := 6#32
  let v0 : BitVec 32 := Scalar.minsi arg1 c6_i32
  let c0_i32 : BitVec 32 := 0#32
  let c0_i32_0 : BitVec 32 := 0#32
  let c0_i32_1 : BitVec 32 := 0#32
  ![arg0.toNat, v0.toNat, c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let c6_i32 : BitVec 32 := 6#32
  let v0 : BitVec 32 := Scalar.minsi arg1 c6_i32
  let c0_i32 : BitVec 32 := 0#32
  let c0_i32_0 : BitVec 32 := 0#32
  let c0_i32_1 : BitVec 32 := 0#32
  let c0_i32_2 : BitVec 32 := 0#32
  ![arg0.toNat, c0_i32.toNat, v0.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c6_i32 : BitVec 32 := 6#32
  let v0 : BitVec 32 := Scalar.minsi arg1 c6_i32
  let c0_i32 : BitVec 32 := 0#32
  let c0_i32_0 : BitVec 32 := 0#32
  let c0_i32_1 : BitVec 32 := 0#32
  ![arg0.toNat, v0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![arg0.toNat, v1.toNat, c0_i32_0.toNat, c0_i32_1.toNat]

abbrev stage0_0 : Fin 2 → Memref sig .tc .vmem S7x1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S2x7x65536 : Shape := ⟨3, ![2, 7, 65536]⟩
abbrev S2x1x65536x7 : Shape := ⟨4, ![2, 1, 65536, 7]⟩
abbrev S2x2x65536x7 : Shape := ⟨4, ![2, 2, 65536, 7]⟩
abbrev S2x2x2x65536x7 : Shape := ⟨5, ![2, 2, 2, 65536, 7]⟩
abbrev S9x65536 : Shape := ⟨2, ![9, 65536]⟩
abbrev S2x65536x7 : Shape := ⟨3, ![2, 65536, 7]⟩
abbrev S2x1x1x65536x7 : Shape := ⟨5, ![2, 1, 1, 65536, 7]⟩
abbrev S_ : Shape := ⟨0, ![]⟩
abbrev S2x9x65536x7 : Shape := ⟨4, ![2, 9, 65536, 7]⟩
abbrev S2x7x9x65536 : Shape := ⟨4, ![2, 7, 9, 65536]⟩
abbrev S2x1x65536 : Shape := ⟨3, ![2, 1, 65536]⟩
abbrev S2x6x65536 : Shape := ⟨3, ![2, 6, 65536]⟩
abbrev S9x65536x1 : Shape := ⟨3, ![9, 65536, 1]⟩
abbrev S2x7x1x65536 : Shape := ⟨4, ![2, 7, 1, 65536]⟩

abbrev nBuf : Space → Nat
  | .hbm => 141
  | .vmem => 0
  | .smem => 0
  | _ => 0

abbrev hbmTy0_0 (i : Nat) : BufTy := match i % 128 with
  | 0 => ⟨S2x7x65536, .f32⟩
  | 1 => ⟨S2x1x65536x7, .f32⟩
  | 2 => ⟨S2x2x65536x7, .f32⟩
  | 3 => ⟨S2x2x2x65536x7, .f32⟩
  | 4 => ⟨S2x1x65536x7, .f32⟩
  | 5 => ⟨S9x65536, .i32⟩
  | 6 => ⟨S2x65536x7, .f32⟩
  | 7 => ⟨S2x65536x7, .f32⟩
  | 8 => ⟨S2x1x1x65536x7, .f32⟩
  | 9 => ⟨S2x65536x7, .f32⟩
  | 10 => ⟨S2x1x1x65536x7, .f32⟩
  | 11 => ⟨S2x65536x7, .f32⟩
  | 12 => ⟨S2x1x1x65536x7, .f32⟩
  | 13 => ⟨S2x65536x7, .f32⟩
  | 14 => ⟨S2x1x1x65536x7, .f32⟩
  | 15 => ⟨S2x65536x7, .f32⟩
  | 16 => ⟨S2x1x65536x7, .f32⟩
  | 17 => ⟨S2x65536x7, .f32⟩
  | 18 => ⟨S2x1x65536x7, .f32⟩
  | 19 => ⟨S2x65536x7, .f32⟩
  | 20 => ⟨S_, .f32⟩
  | 21 => ⟨S2x65536x7, .f32⟩
  | 22 => ⟨S2x65536x7, .f32⟩
  | 23 => ⟨S2x65536x7, .f32⟩
  | 24 => ⟨S_, .f32⟩
  | 25 => ⟨S2x65536x7, .f32⟩
  | 26 => ⟨S2x65536x7, .f32⟩
  | 27 => ⟨S2x65536x7, .f32⟩
  | 28 => ⟨S2x65536x7, .f32⟩
  | 29 => ⟨S_, .f32⟩
  | 30 => ⟨S2x65536x7, .f32⟩
  | 31 => ⟨S2x65536x7, .f32⟩
  | 32 => ⟨S2x65536x7, .f32⟩
  | 33 => ⟨S2x65536x7, .f32⟩
  | 34 => ⟨S_, .f32⟩
  | 35 => ⟨S2x65536x7, .f32⟩
  | 36 => ⟨S2x65536x7, .f32⟩
  | 37 => ⟨S2x65536x7, .f32⟩
  | 38 => ⟨S2x65536x7, .f32⟩
  | 39 => ⟨S_, .f32⟩
  | 40 => ⟨S2x65536x7, .f32⟩
  | 41 => ⟨S2x65536x7, .f32⟩
  | 42 => ⟨S2x65536x7, .f32⟩
  | 43 => ⟨S2x65536x7, .f32⟩
  | 44 => ⟨S_, .f32⟩
  | 45 => ⟨S2x65536x7, .f32⟩
  | 46 => ⟨S2x65536x7, .f32⟩
  | 47 => ⟨S2x65536x7, .f32⟩
  | 48 => ⟨S2x65536x7, .f32⟩
  | 49 => ⟨S_, .f32⟩
  | 50 => ⟨S2x65536x7, .f32⟩
  | 51 => ⟨S2x65536x7, .f32⟩
  | 52 => ⟨S2x65536x7, .f32⟩
  | 53 => ⟨S2x65536x7, .f32⟩
  | 54 => ⟨S2x1x65536x7, .f32⟩
  | 55 => ⟨S2x1x65536x7, .f32⟩
  | 56 => ⟨S2x1x65536x7, .f32⟩
  | 57 => ⟨S2x1x65536x7, .f32⟩
  | 58 => ⟨S2x1x65536x7, .f32⟩
  | 59 => ⟨S2x1x65536x7, .f32⟩
  | 60 => ⟨S2x1x65536x7, .f32⟩
  | 61 => ⟨S2x1x65536x7, .f32⟩
  | 62 => ⟨S2x1x65536x7, .f32⟩
  | 63 => ⟨S2x9x65536x7, .f32⟩
  | 64 => ⟨S2x7x9x65536, .f32⟩
  | 65 => ⟨S2x65536x7, .f32⟩
  | 66 => ⟨S2x65536x7, .f32⟩
  | 67 => ⟨S_, .f32⟩
  | 68 => ⟨S2x65536x7, .f32⟩
  | 69 => ⟨S2x65536x7, .f32⟩
  | 70 => ⟨S2x7x65536, .f32⟩
  | 71 => ⟨S2x1x65536, .f32⟩
  | 72 => ⟨S_, .f32⟩
  | 73 => ⟨S2x1x65536, .f32⟩
  | 74 => ⟨S2x6x65536, .f32⟩
  | 75 => ⟨S2x7x65536, .f32⟩
  | 76 => ⟨S_, .i32⟩
  | 77 => ⟨S9x65536, .i32⟩
  | 78 => ⟨S9x65536, .i1⟩
  | 79 => ⟨S_, .i32⟩
  | 80 => ⟨S9x65536, .i32⟩
  | 81 => ⟨S9x65536, .i32⟩
  | 82 => ⟨S9x65536, .i32⟩
  | 83 => ⟨S9x65536x1, .i32⟩
  | 84 => ⟨S2x7x9x65536, .f32⟩
  | 85 => ⟨S2x7x9x65536, .f32⟩
  | 86 => ⟨S_, .f32⟩
  | 87 => ⟨S2x7x65536, .f32⟩
  | 88 => ⟨S_, .f32⟩
  | 89 => ⟨S2x7x65536, .f32⟩
  | 90 => ⟨S2x7x65536, .f32⟩
  | 91 => ⟨S2x7x65536, .f32⟩
  | 92 => ⟨S2x6x65536, .f32⟩
  | 93 => ⟨S2x6x65536, .f32⟩
  | 94 => ⟨S2x6x65536, .f32⟩
  | 95 => ⟨S2x6x65536, .f32⟩
  | 96 => ⟨S2x6x65536, .f32⟩
  | 97 => ⟨S2x6x65536, .f32⟩
  | 98 => ⟨S2x6x65536, .f32⟩
  | 99 => ⟨S2x7x65536, .f32⟩
  | 100 => ⟨S_, .f32⟩
  | 101 => ⟨S2x7x65536, .f32⟩
  | 102 => ⟨S2x7x1x65536, .f32⟩
  | 103 => ⟨S2x7x9x65536, .f32⟩
  | 104 => ⟨S2x7x9x65536, .f32⟩
  | 105 => ⟨S_, .i32⟩
  | 106 => ⟨S9x65536, .i32⟩
  | 107 => ⟨S9x65536, .i1⟩
  | 108 => ⟨S_, .i32⟩
  | 109 => ⟨S9x65536, .i32⟩
  | 110 => ⟨S9x65536, .i32⟩
  | 111 => ⟨S9x65536, .i32⟩
  | 112 => ⟨S9x65536x1, .i32⟩
  | 113 => ⟨S2x7x65536, .f32⟩
  | 114 => ⟨S_, .f32⟩
  | 115 => ⟨S2x7x65536, .f32⟩
  | 116 => ⟨S2x7x65536, .f32⟩
  | 117 => ⟨S2x7x65536, .f32⟩
  | 118 => ⟨S2x7x65536, .f32⟩
  | 119 => ⟨S2x7x65536, .f32⟩
  | 120 => ⟨S_, .f32⟩
  | 121 => ⟨S2x7x65536, .f32⟩
  | 122 => ⟨S2x7x1x65536, .f32⟩
  | 123 => ⟨S2x7x9x65536, .f32⟩
  | 124 => ⟨S2x7x9x65536, .f32⟩
  | 125 => ⟨S_, .i32⟩
  | 126 => ⟨S9x65536, .i32⟩
  | 127 => ⟨S9x65536, .i1⟩
  | _ => ⟨S2x7x65536, .f32⟩

abbrev hbmTy0_1 (i : Nat) : BufTy := match i % 128 with
  | 0 => ⟨S_, .i32⟩
  | 1 => ⟨S9x65536, .i32⟩
  | 2 => ⟨S9x65536, .i32⟩
  | 3 => ⟨S9x65536, .i32⟩
  | 4 => ⟨S9x65536x1, .i32⟩
  | 5 => ⟨S2x7x65536, .f32⟩
  | 6 => ⟨S_, .f32⟩
  | 7 => ⟨S2x7x65536, .f32⟩
  | 8 => ⟨S2x7x65536, .f32⟩
  | 9 => ⟨S2x7x65536, .f32⟩
  | 10 => ⟨S2x7x65536, .f32⟩
  | 11 => ⟨S2x7x65536, .f32⟩
  | 12 => ⟨S2x7x65536, .f32⟩
  | _ => ⟨S2x7x65536, .f32⟩

abbrev hbmTy (i : Nat) : BufTy := match i / 128 with
  | 0 => hbmTy0_0 i
  | 1 => hbmTy0_1 i
  | _ => ⟨S2x7x65536, .f32⟩

abbrev bufTy : (tb : Table) → Fin (tcTables nBuf tb) → BufTy
  | .hbm, ⟨i, _⟩ => hbmTy i
  | _, _ => ⟨S2x7x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_6 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_7 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_c : Ref sig .tc := ⟨.hbm, 76, rfl⟩
abbrev main_v61 : Ref sig .tc := ⟨.hbm, 77, rfl⟩
abbrev main_v62 : Ref sig .tc := ⟨.hbm, 78, rfl⟩
abbrev main_c_8 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_9 : Ref sig .tc := ⟨.hbm, 86, rfl⟩
abbrev main_v69 : Ref sig .tc := ⟨.hbm, 87, rfl⟩
abbrev main_cst_10 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_cst_11 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_c_12 : Ref sig .tc := ⟨.hbm, 105, rfl⟩
abbrev main_v85 : Ref sig .tc := ⟨.hbm, 106, rfl⟩
abbrev main_v86 : Ref sig .tc := ⟨.hbm, 107, rfl⟩
abbrev main_c_13 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_cst_14 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_cst_15 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_c_16 : Ref sig .tc := ⟨.hbm, 125, rfl⟩
abbrev main_v101 : Ref sig .tc := ⟨.hbm, 126, rfl⟩
abbrev main_v102 : Ref sig .tc := ⟨.hbm, 127, rfl⟩
abbrev main_c_17 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_cst_18 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩

abbrev nD : Nat := 1
abbrev τ : Topo := Topo.v7x

variable {F : FTy → Type} [FloatOps F]
-- ==== Proof.Stencil.lean ====
/- The mathematics over the real numbers: the 9-point stencil on a periodic 256 × 256 grid and its transpose, once as
   combinations of shifted grids (the kernel's way) and once as sums over the nine neighbors (the reference's way), and
   the theorem that the two give the same space-time operator. No program appears here. -/
module

public import Mathlib.Data.Real.Basic
public import Mathlib.Algebra.BigOperators.Fin
public import Mathlib.Algebra.Group.Fin.Basic
public import Mathlib.Tactic.Ring
public import Mathlib.Tactic.FinCases
public import Mathlib.Tactic.LinearCombination

@[expose] public section

noncomputable section

namespace Cert.Stencil

/-- A real value at every point (row, column) of the grid. -/
abbrev Grid := Fin 256 → Fin 256 → ℝ

/-- The value at the eastern neighbor (the next column, periodic). -/
def east (g : Grid) : Grid := fun i j => g i (j + 1)
/-- The value at the western neighbor (the column before, periodic). -/
def west (g : Grid) : Grid := fun i j => g i (j - 1)
/-- The value at the northern neighbor (the row before, periodic). -/
def north (g : Grid) : Grid := fun i j => g (i - 1) j
/-- The value at the southern neighbor (the next row, periodic). -/
def south (g : Grid) : Grid := fun i j => g (i + 1) j

/-- The eight input fields as real grids, per batch entry and time step; `q` is `1 / tau²`. -/
structure Fields where
  x : Fin 2 → Fin 7 → Grid
  kap : Fin 2 → Fin 7 → Grid
  m1 : Fin 2 → Fin 7 → Grid
  m2 : Fin 2 → Fin 7 → Grid
  h11 : Fin 2 → Fin 7 → Grid
  h12 : Fin 2 → Fin 7 → Grid
  h21 : Fin 2 → Fin 7 → Grid
  h22 : Fin 2 → Fin 7 → Grid
  q : Fin 2 → Fin 7 → Grid

/-! ### The kernel's way: shifted grids -/

/-- The stencil applied to `x`, from its six coefficient grids. -/
def applyA (cc h11 h22 m1h m2h cx x : Grid) : Grid :=
  cc * x - h11 * (east x + west x) + m1h * (east x - west x) - h22 * (north x + south x) + m2h * (north x - south x)
    + cx * (south (east x - west x) - north (east x - west x))

/-- The transposed stencil applied to `z`. -/
def applyAT (cc h11 h22 m1h m2h cx z : Grid) : Grid :=
  cc * z - (west (h11 * z) + east (h11 * z)) + (west (m1h * z) - east (m1h * z)) - (south (h22 * z) + north (h22 * z))
    + (south (m2h * z) - north (m2h * z))
    + (west (north (cx * z) - south (cx * z)) - east (north (cx * z) - south (cx * z)))

namespace Fields
variable (f : Fields) (b : Fin 2) (k : Fin 7)

/-- Half of the first drift field. -/
def m1h : Grid := (fun _ _ => (1 / 2 : ℝ)) * f.m1 b k
/-- Half of the second drift field. -/
def m2h : Grid := (fun _ _ => (1 / 2 : ℝ)) * f.m2 b k
/-- The central coefficient. -/
def cc : Grid := f.kap b k * f.kap b k + (fun _ _ => (2 : ℝ)) * f.h11 b k + (fun _ _ => (2 : ℝ)) * f.h22 b k
/-- The diagonal coefficient. -/
def cx : Grid := (fun _ _ => (1 / 4 : ℝ)) * (f.h12 b k + f.h21 b k)

/-- One implicit step, `u = x + A x`. -/
def u : Grid :=
  f.x b k + applyA (f.cc b k) (f.h11 b k) (f.h22 b k) (f.m1h b k) (f.m2h b k) (f.cx b k) (f.x b k)

/-- The state of the time step before (zero before the first). -/
def xprev : Grid := if k = 0 then 0 else f.x b (k - 1)

/-- The weighted residual `z = q (u - xprev)`. -/
def z : Grid := f.q b k * (f.u b k - f.xprev b k)

/-- The transposed step applied to the residual, `w = z + Aᵀ z`. -/
def w : Grid :=
  f.z b k + applyAT (f.cc b k) (f.h11 b k) (f.h22 b k) (f.m1h b k) (f.m2h b k) (f.cx b k) (f.z b k)

/-- The kernel's result at time step `k`: `w` there, less the next time step's weighted residual where there is one. -/
def kerOut : Grid := if k = 6 then f.w b k else f.w b k + f.q b (k + 1) * (f.x b k - f.u b (k + 1))

/-! ### The reference's way: sums over the nine neighbors -/

/-- The nine stencil coefficients: center, E, W, N, S, NE, NW, SE, SW. -/
def coef : Fin 9 → Grid :=
  ![fun i j => f.kap b k i j * f.kap b k i j + 2 * f.h11 b k i j + 2 * f.h22 b k i j,
    fun i j => -f.h11 b k i j + 1 / 2 * f.m1 b k i j,
    fun i j => -f.h11 b k i j - 1 / 2 * f.m1 b k i j,
    fun i j => -f.h22 b k i j + 1 / 2 * f.m2 b k i j,
    fun i j => -f.h22 b k i j - 1 / 2 * f.m2 b k i j,
    fun i j => -(1 / 4 * (f.h12 b k i j + f.h21 b k i j)),
    fun i j => 1 / 4 * (f.h12 b k i j + f.h21 b k i j),
    fun i j => 1 / 4 * (f.h12 b k i j + f.h21 b k i j),
    fun i j => -(1 / 4 * (f.h12 b k i j + f.h21 b k i j))]

end Fields

/-- The row offset of each neighbor. -/
def di : Fin 9 → Fin 256 := ![0, 0, 0, -1, 1, -1, -1, 1, 1]
/-- The column offset of each neighbor. -/
def dj : Fin 9 → Fin 256 := ![0, 1, -1, 0, 0, 1, -1, 1, -1]

/-- The stencil as a gather: the sum over the neighbors of coefficient times value there. -/
def refA (c : Fin 9 → Grid) (v : Grid) : Grid := fun i j => ∑ t, c t i j * v (i + di t) (j + dj t)

/-- The transposed stencil as a scatter: what each point's nine contributions add up to where they land. -/
def refAT (c : Fin 9 → Grid) (v : Grid) : Grid := fun i j => ∑ t, c t (i - di t) (j - dj t) * v (i - di t) (j - dj t)

namespace Fields
variable (f : Fields) (b : Fin 2) (k : Fin 7)

/-- One implicit step, the reference's way. -/
def refU : Grid := f.x b k + refA (f.coef b k) (f.x b k)

/-- The reference's result at time step `k`. -/
def refOut : Grid := fun i j =>
  -(f.q b k i j * f.xprev b k i j + refAT (f.coef b k) (f.q b k * f.xprev b k) i j)
    + (f.q b k i j * f.refU b k i j + refAT (f.coef b k) (f.q b k * f.refU b k) i j)
    + (if k = 6 then 0
       else f.q b (k + 1) i j * f.x b k i j - f.q b (k + 1) i j * f.refU b (k + 1) i j)

/-- The two forms of the stencil agree. -/
theorem applyA_eq (v : Grid) :
    applyA (f.cc b k) (f.h11 b k) (f.h22 b k) (f.m1h b k) (f.m2h b k) (f.cx b k) v = refA (f.coef b k) v := by
  funext i j
  simp [applyA, refA, Fin.sum_univ_succ, coef, di, dj, cc, m1h, m2h, cx, east, west, north, south, sub_eq_add_neg]
  ring

/-- The two forms of the transposed stencil agree. -/
theorem applyAT_eq (v : Grid) :
    applyAT (f.cc b k) (f.h11 b k) (f.h22 b k) (f.m1h b k) (f.m2h b k) (f.cx b k) v = refAT (f.coef b k) v := by
  funext i j
  simp [applyAT, refAT, Fin.sum_univ_succ, coef, di, dj, cc, m1h, m2h, cx, east, west, north, south, sub_eq_add_neg]
  ring

/-- The transposed stencil of a difference. -/
theorem refAT_sub (c : Fin 9 → Grid) (v w : Grid) (i j : Fin 256) :
    refAT c (v - w) i j = refAT c v i j - refAT c w i j := by
  simp only [refAT, Pi.sub_apply, mul_sub, Finset.sum_sub_distrib]

/-- The kernel's result is the reference's. -/
theorem kerOut_eq : f.kerOut b k = f.refOut b k := by
  funext i j
  have hu : ∀ k, f.u b k = f.refU b k := fun k => by rw [u, refU, applyA_eq]
  have hw : f.w b k i j = f.q b k i j * (f.refU b k i j - f.xprev b k i j)
      + (refAT (f.coef b k) (f.q b k * f.refU b k) i j - refAT (f.coef b k) (f.q b k * f.xprev b k) i j) := by
    rw [w, applyAT_eq, Pi.add_apply, Pi.add_apply, z, hu, ← refAT_sub, ← mul_sub]; rfl
  unfold kerOut refOut
  split
  · rw [hw]; ring
  · simp only [Pi.add_apply, Pi.mul_apply, Pi.sub_apply]
    rw [hw, hu]; ring

end Fields

end Cert.Stencil

end
-- ==== Proof.Lift.lean ====
/- Real grids as arrays of the kernel's 256 × 256 shape, and what each array operation of the kernel's body does to
   them: elementwise arithmetic stays elementwise on the reals, and the two slices glued the other way round are a
   shift by one row or one column. -/
module

public import proofs.«01_k».proof.Proof.Gen.KernelIdeal.Skeleton
public import proofs.«01_k».proof.Proof.Stencil
public import Idealize.ShloMosaic.Lib.Pointwise

@[expose] public section

set_option maxRecDepth 16384

noncomputable section

namespace Cert.Lift

open Idealize.ShloMosaic Cert.KernelIdeal Cert.Stencil

/-- The row of an index of the grid's shape. -/
def row (j : S256x256.Idx) : Fin 256 := j 0
/-- The column of an index of the grid's shape. -/
def col (j : S256x256.Idx) : Fin 256 := j 1

/-- The row of a pair is its first entry. -/
@[simp] theorem row_ix2 (a b : Fin 256) : row (ix2 a b) = a := rfl
/-- The column of a pair is its second entry. -/
@[simp] theorem col_ix2 (a b : Fin 256) : col (ix2 a b) = b := rfl

/-- The array of the reals of a grid. -/
def gr (g : Grid) : FVec Ideal S256x256 .f32 := fun j => ((g (row j) (col j) : ℝ) : EReal)

/-- The array of a grid at an index. -/
theorem gr_apply (g : Grid) (j : S256x256.Idx) : gr g j = ((g (row j) (col j) : ℝ) : EReal) := rfl

/-- Adding arrays of reals adds the reals. -/
theorem addf_gr (a b : Grid) : addf (gr a) (gr b) = gr (a + b) := by
  funext j; exact (EReal.coe_add _ _).symm

/-- Subtracting arrays of reals subtracts the reals. -/
theorem subf_gr (a b : Grid) : subf (gr a) (gr b) = gr (a - b) := by
  funext j; exact (EReal.coe_sub _ _).symm

/-- Multiplying arrays of reals multiplies the reals. -/
theorem mulf_gr (a b : Grid) : mulf (gr a) (gr b) = gr (a * b) := by
  funext j; exact (EReal.coe_mul _ _).symm

/-- The single-precision pattern of one half. -/
theorem ofBits_half : Ideal.ofBits .f32 0x3F000000#32 = ((1 / 2 : ℝ) : EReal) := by
  simp [Ideal.ofBits, Ideal.ieee, -EReal.coe_mul]; norm_num

/-- The single-precision pattern of two. -/
theorem ofBits_two : Ideal.ofBits .f32 0x40000000#32 = ((2 : ℝ) : EReal) := by
  simp [Ideal.ofBits, Ideal.ieee, -EReal.coe_mul]; norm_num

/-- The single-precision pattern of one quarter. -/
theorem ofBits_quarter : Ideal.ofBits .f32 0x3E800000#32 = ((1 / 4 : ℝ) : EReal) := by
  simp [Ideal.ofBits, Ideal.ieee, -EReal.coe_mul]; norm_num

/-- The constant array of halves. -/
theorem bcast_half : broadcast S256x256 (Scalar.ofBits (F := Ideal) .f32 0x3F000000#32) = gr fun _ _ => (1 / 2 : ℝ) := by
  funext j; exact ofBits_half

/-- The constant array of twos. -/
theorem bcast_two : broadcast S256x256 (Scalar.ofBits (F := Ideal) .f32 0x40000000#32) = gr fun _ _ => (2 : ℝ) := by
  funext j; exact ofBits_two

/-- The constant array of quarters. -/
theorem bcast_quarter : broadcast S256x256 (Scalar.ofBits (F := Ideal) .f32 0x3E800000#32) = gr fun _ _ => (1 / 4 : ℝ) := by
  funext j; exact ofBits_quarter

/-- The constant array of ones. -/
theorem bcast_one : broadcast S256x256 (Scalar.ofBits (F := Ideal) .f32 0x3F800000#32) = gr 1 := by
  funext j; exact Ideal.ofBits_one_f32

/-- The constant array of zeros. -/
theorem bcast_zero : broadcast S256x256 (Scalar.ofBits (F := Ideal) .f32 0x00000000#32) = gr 0 := by
  funext j; exact Ideal.ofBits_zero_f32

/-- The same value at two spellings of an index. -/
theorem same_point (v : FVec Ideal S256x256 .f32) {i i' j j' : Fin 256} (hi : i.val = i'.val) (hj : j.val = j'.val) :
    v (ix2 i j) = v (ix2 i' j') := by
  rw [Fin.ext hi, Fin.ext hj]

/-- The number of the next coordinate, periodic. -/
theorem val_next (j : Fin 256) : (j + 1).val = if j.val < 255 then j.val + 1 else 0 := by
  rw [Fin.val_add]; have := j.isLt; simp only [Fin.isValue, Fin.val_one]; split <;> omega

/-- The number of the coordinate before, periodic. -/
theorem val_back (j : Fin 256) : (j - 1).val = if j.val = 0 then 255 else j.val - 1 := by
  rw [Fin.sub_def]; have := j.isLt; simp only [Fin.isValue, Fin.val_one]; split <;> omega

/-- Columns 1 … 255, then column 0: the eastern neighbors. -/
def rollE (v : FVec Ideal S256x256 .f32) : FVec Ideal S256x256 .f32 := fun j => v (ix2 (row j) (col j + 1))

/-- The two slices glued the other way round are `rollE`. -/
theorem rollE_fold (v : FVec Ideal S256x256 .f32) (h1 h2 h3) :
    concatenate S256x256 1
      [⟨S256x255, extractStridedSlice S256x255 ![0, 1] v h1⟩, ⟨S256x1, extractStridedSlice S256x1 ![0, 0] v h2⟩] h3
      = rollE v := by
  funext j
  idx_vars j
  pointwise [rollE, row_ix2, col_ix2]
  split <;> refine same_point v ?_ ?_ <;> (have := j0.isLt; have := j1.isLt; simp only [val_next, val_back] <;> first | omega | (split <;> omega))

/-- `rollE` of an array of reals is the array of the eastern grid. -/
theorem rollE_gr (g : Grid) : rollE (gr g) = gr (east g) := rfl

/-- Column 255, then columns 0 … 254: the western neighbors. -/
def rollW (v : FVec Ideal S256x256 .f32) : FVec Ideal S256x256 .f32 := fun j => v (ix2 (row j) (col j - 1))

/-- The two slices glued the other way round are `rollW`. -/
theorem rollW_fold (v : FVec Ideal S256x256 .f32) (h1 h2 h3) :
    concatenate S256x256 1
      [⟨S256x1, extractStridedSlice S256x1 ![0, 255] v h1⟩, ⟨S256x255, extractStridedSlice S256x255 ![0, 0] v h2⟩] h3
      = rollW v := by
  funext j
  idx_vars j
  pointwise [rollW, row_ix2, col_ix2]
  split <;> refine same_point v ?_ ?_ <;> (have := j0.isLt; have := j1.isLt; simp only [val_next, val_back] <;> first | omega | (split <;> omega))

/-- `rollW` of an array of reals is the array of the western grid. -/
theorem rollW_gr (g : Grid) : rollW (gr g) = gr (west g) := rfl

/-- Row 255, then rows 0 … 254: the northern neighbors. -/
def rollN (v : FVec Ideal S256x256 .f32) : FVec Ideal S256x256 .f32 := fun j => v (ix2 (row j - 1) (col j))

/-- The two slices glued the other way round are `rollN`. -/
theorem rollN_fold (v : FVec Ideal S256x256 .f32) (h1 h2 h3) :
    concatenate S256x256 0
      [⟨S1x256, extractStridedSlice S1x256 ![255, 0] v h1⟩, ⟨S255x256, extractStridedSlice S255x256 ![0, 0] v h2⟩] h3
      = rollN v := by
  funext j
  idx_vars j
  pointwise [rollN, row_ix2, col_ix2]
  split <;> refine same_point v ?_ ?_ <;> (have := j0.isLt; have := j1.isLt; simp only [val_next, val_back] <;> first | omega | (split <;> omega))

/-- `rollN` of an array of reals is the array of the northern grid. -/
theorem rollN_gr (g : Grid) : rollN (gr g) = gr (north g) := rfl

/-- Rows 1 … 255, then row 0: the southern neighbors. -/
def rollS (v : FVec Ideal S256x256 .f32) : FVec Ideal S256x256 .f32 := fun j => v (ix2 (row j + 1) (col j))

/-- The two slices glued the other way round are `rollS`. -/
theorem rollS_fold (v : FVec Ideal S256x256 .f32) (h1 h2 h3) :
    concatenate S256x256 0
      [⟨S255x256, extractStridedSlice S255x256 ![1, 0] v h1⟩, ⟨S1x256, extractStridedSlice S1x256 ![0, 0] v h2⟩] h3
      = rollS v := by
  funext j
  idx_vars j
  pointwise [rollS, row_ix2, col_ix2]
  split <;> refine same_point v ?_ ?_ <;> (have := j0.isLt; have := j1.isLt; simp only [val_next, val_back] <;> first | omega | (split <;> omega))

/-- `rollS` of an array of reals is the array of the southern grid. -/
theorem rollS_gr (g : Grid) : rollS (gr g) = gr (south g) := rfl

end Cert.Lift

end
-- ==== Proof.Body.lean ====
/- What one run of the kernel's body computes from real grids: the stencil of the state at this time step, the weighted
   residual, the new carried grid `w` and the block of the result. Each stored value is a real grid again. -/
module

public import proofs.«01_k».proof.Proof.Lift

@[expose] public section

set_option maxRecDepth 16384

noncomputable section

namespace Cert.Body

open Idealize.ShloMosaic Cert.KernelIdeal Cert.KernelIdeal.Gen Cert.Stencil Cert.Lift

variable (kap m1 m2 h11 h12 h21 h22 q x xp wp fl : Grid)

/-- Half of the first drift field, as the body computes it. -/
theorem pay14_gr : k0_pay14 (gr m1) (Scalar.ofBits (F := Ideal) .f32 0x3F000000#32) = gr ((fun _ _ => (1 / 2 : ℝ)) * m1) := by
  simp only [k0_pay14, bcast_half, mulf_gr]

/-- Half of the second drift field, as the body computes it. -/
theorem pay15_gr : k0_pay15 (gr m2) = gr ((fun _ _ => (1 / 2 : ℝ)) * m2) := by
  simp only [k0_pay15, bcast_half, mulf_gr]

/-- The central coefficient, as the body computes it. -/
theorem pay16_gr : k0_pay16 (gr kap) (gr h11) (gr h22)
    = gr (kap * kap + (fun _ _ => (2 : ℝ)) * h11 + (fun _ _ => (2 : ℝ)) * h22) := by
  simp only [k0_pay16, bcast_two, mulf_gr, addf_gr]

/-- The diagonal coefficient, as the body computes it. -/
theorem pay17_gr : k0_pay17 (gr h12) (gr h21) = gr ((fun _ _ => (1 / 4 : ℝ)) * (h12 + h21)) := by
  simp only [k0_pay17, bcast_quarter, mulf_gr, addf_gr]

/-- The stencil of the state, as the body computes it. -/
theorem pay19_gr (v57 : Vec Ideal S1x1x256x256 .f32) (hx : k0_pay18 v57 = gr x) :
    k0_pay19 (gr kap) (gr m1) (gr m2) (gr h11) (gr h12) (gr h21) (gr h22)
        (Scalar.ofBits (F := Ideal) .f32 0x3F000000#32) v57
      = gr (applyA (kap * kap + (fun _ _ => (2 : ℝ)) * h11 + (fun _ _ => (2 : ℝ)) * h22) h11 h22
          ((fun _ _ => (1 / 2 : ℝ)) * m1) ((fun _ _ => (1 / 2 : ℝ)) * m2) ((fun _ _ => (1 / 4 : ℝ)) * (h12 + h21)) x) := by
  simp only [k0_pay19, hx, pay14_gr, pay15_gr, pay16_gr, pay17_gr, rollE_fold, rollW_fold, rollN_fold, rollS_fold, rollE_gr,
    rollW_gr, rollN_gr, rollS_gr, mulf_gr, addf_gr,
    subf_gr, applyA]

/-- One implicit step, as the body computes it. -/
theorem pay21_gr (a : Grid) : k0_pay21 (gr x) (gr a) (k0_pay20 (F := Ideal)) = gr (x + a) := by
  simp only [k0_pay21, k0_pay20, bcast_one, mulf_gr, addf_gr, one_mul]

/-- The block of the result that a point with a predecessor stores. -/
theorem pay23_gr (a : Grid) (v99 : Vec Ideal S1x1x256x256 .f32) (hp : k0_pay22 v99 = gr xp) :
    k0_pay23 (gr q) (gr x) (gr a) (k0_pay20 (F := Ideal)) v99 (gr wp)
      = k0_pay2 (gr (wp + q * (xp - (x + a)))) := by
  simp only [k0_pay23, k0_pay2, hp, pay21_gr, mulf_gr, addf_gr, subf_gr]

/-- The weighted residual, as the body computes it; `fl` is the flag that drops the state before the first. -/
theorem pay24_gr (a : Grid) (arg1 : BitVec 32) (v99 : Vec Ideal S1x1x256x256 .f32) (hp : k0_pay22 v99 = gr xp)
    (hf : broadcast S256x256 (Scalar.select (Scalar.cmpi .sgt arg1 0#32) (Scalar.ofBits (F := Ideal) .f32 0x3F800000#32)
      (Scalar.ofBits (F := Ideal) .f32 0x00000000#32)) = gr fl) :
    k0_pay24 arg1 (gr q) (gr x) (gr a) (k0_pay20 (F := Ideal)) v99 = gr (q * (x + a - fl * xp)) := by
  simp only [k0_pay24, hp, hf, pay21_gr, mulf_gr, subf_gr]

/-- The carried grid that the point leaves: the residual `z` plus the transposed stencil of it. -/
theorem pay1_gr (a z cc m1h m2h cx : Grid) (arg1 : BitVec 32) (v99 : Vec Ideal S1x1x256x256 .f32)
    (hz : k0_pay24 arg1 (gr q) (gr x) (gr a) (k0_pay20 (F := Ideal)) v99 = gr z) :
    k0_pay1 (gr cx) (gr z)
        (k0_pay25 arg1 (gr h11) (gr h22) (gr q) (gr m1h) (gr cc) (gr x) (gr a) (k0_pay20 (F := Ideal)) v99)
        (k0_pay26 arg1 (gr q) (gr m2h) (gr x) (gr a) (k0_pay20 (F := Ideal)) v99)
        (k0_pay27 arg1 (gr q) (gr m2h) (gr x) (gr a) (k0_pay20 (F := Ideal)) v99)
        (k0_pay28 arg1 (gr q) (gr m2h) (gr x) (gr a) (k0_pay20 (F := Ideal)) v99)
      = gr (z + applyAT cc h11 h22 m1h m2h cx z) := by
  simp only [k0_pay1, k0_pay25, k0_pay27, k0_pay28, k0_pay26, hz, rollE_fold, rollW_fold, rollN_fold, rollS_fold, rollE_gr,
    rollW_gr, rollN_gr, rollS_gr, mulf_gr, addf_gr,
    subf_gr, bcast_one, one_mul, applyAT, shapeCast_self]

end Cert.Body

end
-- ==== Proof.Pieces.lean ====
/- What each case's stores leave in the carried grid and in the block of the result, when the blocks the body loads hold
   real grids. Case A is the first time step of a batch entry (nothing emitted), case B a later one (the result of the
   step before is emitted, then the carried grid replaced), case C the last point (the carried grid is emitted). -/
module

public import proofs.«01_k».proof.Proof.Gen.KernelIdeal.Frame
public import proofs.«01_k».proof.Proof.Body
public import Idealize.ShloMosaic.Lib.Pipeline.Value

@[expose] public section

set_option maxRecDepth 16384

noncomputable section

namespace Cert.Pieces

open Idealize.ShloMosaic Idealize.ShloMosaic.TcCoe Idealize.ShloMosaic.Tactic Cert.KernelIdeal Cert.KernelIdeal.Gen
open Cert.Stencil Cert.Lift Cert.Body

/-- The real grids at one time step: its coefficient fields, its state `x`, the state `xp` loaded as the one before, and
    the flag grid `fl` that multiplies it. -/
structure Step where
  kap : Grid
  m1 : Grid
  m2 : Grid
  h11 : Grid
  h12 : Grid
  h21 : Grid
  h22 : Grid
  q : Grid
  x : Grid
  xp : Grid
  fl : Grid

namespace Step
variable (s : Step)

/-- The central coefficient. -/
def cc : Grid := s.kap * s.kap + (fun _ _ => (2 : ℝ)) * s.h11 + (fun _ _ => (2 : ℝ)) * s.h22
/-- Half of the first drift field. -/
def m1h : Grid := (fun _ _ => (1 / 2 : ℝ)) * s.m1
/-- Half of the second drift field. -/
def m2h : Grid := (fun _ _ => (1 / 2 : ℝ)) * s.m2
/-- The diagonal coefficient. -/
def cx : Grid := (fun _ _ => (1 / 4 : ℝ)) * (s.h12 + s.h21)
/-- The stencil of the state. -/
def a : Grid := applyA s.cc s.h11 s.h22 s.m1h s.m2h s.cx s.x
/-- The weighted residual. -/
def z : Grid := s.q * (s.x + s.a - s.fl * s.xp)
/-- The carried grid this step leaves. -/
def w : Grid := s.z + applyAT s.cc s.h11 s.h22 s.m1h s.m2h s.cx s.z
/-- What this step emits over the carried grid `wp` of the step before. -/
def emit (wp : Grid) : Grid := wp + s.q * (s.xp - (s.x + s.a))

end Step

/-- The blocks at a grid point hold the step's real grids. -/
structure Loads (i : grid0.Coords) (x0 : Vec Ideal S7x1x256x256 .f32) (x1 : Vec Ideal S1x1x512x128 .f32)
    (x2 : Vec Ideal S1x1x1024x128 .f32) (x3 : Vec Ideal S1x2x1x1024x128 .f32) (x4 : Vec Ideal S1x1x512x128 .f32)
    (s : Step) : Prop where
  kap : k0_pay3 x1 = gr s.kap
  q : k0_pay13 x4 = gr s.q
  m1 : k0_pay5 x2 = gr s.m1
  m2 : k0_pay6 x2 = gr s.m2
  h11 : ∀ h, k0_pay8 (View.ld x3 (Rect.unit ![0, 0, 0, 0, 0] ![1, 1, 1, 1024, 128] h)) = gr s.h11
  h12 : ∀ h, k0_pay9 (View.ld x3 (Rect.unit ![0, 0, 0, 0, 0] ![1, 1, 1, 1024, 128] h)) = gr s.h12
  h21 : ∀ h, k0_pay11 (View.ld x3 (Rect.unit ![0, 1, 0, 0, 0] ![1, 1, 1, 1024, 128] h)) = gr s.h21
  h22 : ∀ h, k0_pay12 (View.ld x3 (Rect.unit ![0, 1, 0, 0, 0] ![1, 1, 1, 1024, 128] h)) = gr s.h22
  x : ∀ h, k0_pay18 (View.ld x0 (Rect.unit ![(Scalar.indexCast (BitVec.ofNat 32 (i 1).val)).toNat, 0, 0, 0]
    ![1, 1, 256, 256] h)) = gr s.x
  xp : ∀ h, k0_pay22 (View.ld x0 (Rect.unit ![(Scalar.indexCast
    (Scalar.maxsi (Scalar.subi (BitVec.ofNat 32 (i 1).val) 1#32) 0#32)).toNat, 0, 0, 0]
    ![1, 1, 256, 256] h)) = gr s.xp
  fl : broadcast S256x256 (Scalar.select (Scalar.cmpi .sgt (BitVec.ofNat 32 (i 1).val) 0#32)
    (Scalar.ofBits (F := Ideal) .f32 0x3F800000#32) (Scalar.ofBits (F := Ideal) .f32 0x00000000#32)) = gr s.fl

/-- Two zero offsets. -/
theorem zero2 : (![0, 0] : Fin 2 → Nat) = fun _ => 0 := by decide
/-- Four zero offsets. -/
theorem zero4 : (![0, 0, 0, 0] : Fin 4 → Nat) = fun _ => 0 := by decide

/-- A load of the whole κ (or τ) block reads the block. -/
theorem ld_512 (x : Vec Ideal S1x1x512x128 .f32) (h) :
    View.ld x (Rect.unit ![0, 0, 0, 0] ![1, 1, 512, 128] h) = x := View.ld_unit_zero zero4 h x
/-- A load of the whole drift block reads the block. -/
theorem ld_1024 (x : Vec Ideal S1x1x1024x128 .f32) (h) :
    View.ld x (Rect.unit ![0, 0, 0, 0] ![1, 1, 1024, 128] h) = x := View.ld_unit_zero zero4 h x
/-- A load of the whole carried grid reads it. -/
theorem ld_grid (x : Vec Ideal S256x256 .f32) (h) :
    View.ld x (Rect.unit ![0, 0] ![256, 256] h) = x := View.ld_unit_zero zero2 h x

/-- The carried grid a step stores, from the loaded blocks. -/
theorem stored_w (s : Step) (arg1 : BitVec 32) (v6 v9 : Vec Ideal S1x1x512x128 .f32) (v12 : Vec Ideal S1x1x1024x128 .f32)
    (v21 v30 : Vec Ideal S1x1x1x1024x128 .f32) (v57 v99 : Vec Ideal S1x1x256x256 .f32)
    (hkap : k0_pay3 v6 = gr s.kap) (hq : k0_pay13 v9 = gr s.q) (hm1 : k0_pay5 v12 = gr s.m1) (hm2 : k0_pay6 v12 = gr s.m2)
    (h11 : k0_pay8 v21 = gr s.h11) (h12 : k0_pay9 v21 = gr s.h12) (h21 : k0_pay11 v30 = gr s.h21)
    (h22 : k0_pay12 v30 = gr s.h22) (hx : k0_pay18 v57 = gr s.x) (hxp : k0_pay22 v99 = gr s.xp)
    (hfl : broadcast S256x256 (Scalar.select (Scalar.cmpi .sgt arg1 0#32) (Scalar.ofBits (F := Ideal) .f32 0x3F800000#32)
      (Scalar.ofBits (F := Ideal) .f32 0x00000000#32)) = gr s.fl) :
    k0_pay1 (k0_pay17 (k0_pay9 v21) (k0_pay11 v30)) (k0_pay24 arg1 (k0_pay13 v9) (k0_pay18 v57) (k0_pay19 (k0_pay3 v6) (k0_pay5 v12) (k0_pay6 v12) (k0_pay8 v21) (k0_pay9 v21) (k0_pay11 v30) (k0_pay12 v30)
          (Scalar.ofBits (F := Ideal) .f32 0x3F000000#32) v57) (k0_pay20 (F := Ideal)) v99)
        (k0_pay25 arg1 (k0_pay8 v21) (k0_pay12 v30) (k0_pay13 v9) (k0_pay14 (k0_pay5 v12) (Scalar.ofBits (F := Ideal) .f32 0x3F000000#32))
          (k0_pay16 (k0_pay3 v6) (k0_pay8 v21) (k0_pay12 v30)) (k0_pay18 v57) (k0_pay19 (k0_pay3 v6) (k0_pay5 v12) (k0_pay6 v12) (k0_pay8 v21) (k0_pay9 v21) (k0_pay11 v30) (k0_pay12 v30)
          (Scalar.ofBits (F := Ideal) .f32 0x3F000000#32) v57) (k0_pay20 (F := Ideal)) v99)
        (k0_pay26 arg1 (k0_pay13 v9) (k0_pay15 (k0_pay6 v12)) (k0_pay18 v57) (k0_pay19 (k0_pay3 v6) (k0_pay5 v12) (k0_pay6 v12) (k0_pay8 v21) (k0_pay9 v21) (k0_pay11 v30) (k0_pay12 v30)
          (Scalar.ofBits (F := Ideal) .f32 0x3F000000#32) v57) (k0_pay20 (F := Ideal)) v99)
        (k0_pay27 arg1 (k0_pay13 v9) (k0_pay15 (k0_pay6 v12)) (k0_pay18 v57) (k0_pay19 (k0_pay3 v6) (k0_pay5 v12) (k0_pay6 v12) (k0_pay8 v21) (k0_pay9 v21) (k0_pay11 v30) (k0_pay12 v30)
          (Scalar.ofBits (F := Ideal) .f32 0x3F000000#32) v57) (k0_pay20 (F := Ideal)) v99)
        (k0_pay28 arg1 (k0_pay13 v9) (k0_pay15 (k0_pay6 v12)) (k0_pay18 v57) (k0_pay19 (k0_pay3 v6) (k0_pay5 v12) (k0_pay6 v12) (k0_pay8 v21) (k0_pay9 v21) (k0_pay11 v30) (k0_pay12 v30)
          (Scalar.ofBits (F := Ideal) .f32 0x3F000000#32) v57) (k0_pay20 (F := Ideal)) v99)
      = gr s.w := by
  have ha : k0_pay19 (k0_pay3 v6) (k0_pay5 v12) (k0_pay6 v12) (k0_pay8 v21) (k0_pay9 v21) (k0_pay11 v30) (k0_pay12 v30)
          (Scalar.ofBits (F := Ideal) .f32 0x3F000000#32) v57 = gr s.a := by
    rw [hkap, hm1, hm2, h11, h12, h21, h22]
    exact pay19_gr s.kap s.m1 s.m2 s.h11 s.h12 s.h21 s.h22 s.x v57 hx
  rw [ha, hq, hx, h11, h22, h12, h21, hm1, hm2, hkap, pay14_gr, pay15_gr, pay16_gr, pay17_gr]
  have hz : k0_pay24 arg1 (gr s.q) (gr s.x) (gr s.a) (k0_pay20 (F := Ideal)) v99 = gr s.z :=
    pay24_gr s.q s.x s.xp s.fl s.a arg1 v99 hxp hfl
  rw [hz]
  exact pay1_gr s.h11 s.h22 s.q s.x s.a s.z s.cc s.m1h s.m2h s.cx arg1 v99 hz

/-- The block a later step emits, from the loaded blocks and the carried grid. -/
theorem stored_out (s : Step) (wp : Grid) (v6 v9 : Vec Ideal S1x1x512x128 .f32) (v12 : Vec Ideal S1x1x1024x128 .f32)
    (v21 v30 : Vec Ideal S1x1x1x1024x128 .f32) (v57 v99 : Vec Ideal S1x1x256x256 .f32) (v169 : Vec Ideal S256x256 .f32)
    (hkap : k0_pay3 v6 = gr s.kap) (hq : k0_pay13 v9 = gr s.q) (hm1 : k0_pay5 v12 = gr s.m1) (hm2 : k0_pay6 v12 = gr s.m2)
    (h11 : k0_pay8 v21 = gr s.h11) (h12 : k0_pay9 v21 = gr s.h12) (h21 : k0_pay11 v30 = gr s.h21)
    (h22 : k0_pay12 v30 = gr s.h22) (hx : k0_pay18 v57 = gr s.x) (hxp : k0_pay22 v99 = gr s.xp) (hw : v169 = gr wp) :
    k0_pay23 (k0_pay13 v9) (k0_pay18 v57) (k0_pay19 (k0_pay3 v6) (k0_pay5 v12) (k0_pay6 v12) (k0_pay8 v21) (k0_pay9 v21) (k0_pay11 v30) (k0_pay12 v30)
          (Scalar.ofBits (F := Ideal) .f32 0x3F000000#32) v57) (k0_pay20 (F := Ideal)) v99 v169 = k0_pay2 (F := Ideal) (gr (s.emit wp)) := by
  have ha : k0_pay19 (k0_pay3 v6) (k0_pay5 v12) (k0_pay6 v12) (k0_pay8 v21) (k0_pay9 v21) (k0_pay11 v30) (k0_pay12 v30)
          (Scalar.ofBits (F := Ideal) .f32 0x3F000000#32) v57 = gr s.a := by
    rw [hkap, hm1, hm2, h11, h12, h21, h22]
    exact pay19_gr s.kap s.m1 s.m2 s.h11 s.h12 s.h21 s.h22 s.x v57 hx
  rw [ha, hq, hx, hw]
  exact pay23_gr s.q s.x s.xp wp s.a v99 hxp

/-- The first step of a batch entry leaves its `w`. -/
theorem soutA (c : Dev nD) (i : grid0.Coords)
    (arg2 : Memref sig .tc .vmem S7x1x256x256 .f32) (harg2 : arg2.IsWhole)
    (arg3 : Memref sig .tc .vmem S1x1x512x128 .f32) (harg3 : arg3.IsWhole)
    (arg4 : Memref sig .tc .vmem S1x1x1024x128 .f32) (harg4 : arg4.IsWhole)
    (arg5 : Memref sig .tc .vmem S1x2x1x1024x128 .f32) (harg5 : arg5.IsWhole)
    (arg6 : Memref sig .tc .vmem S1x1x512x128 .f32) (harg6 : arg6.IsWhole)
    (arg7 : Memref sig .tc .vmem S1x1x256x256 .f32) (harg7 : arg7.IsWhole)
    (arg8 : Memref sig .tc .vmem S256x256 .f32) (harg8 : arg8.IsWhole)
    (hc0 : cond0_0 i) (hc1 : ¬cond0_1 i) (hc2 : ¬cond0_2 i)
    (x0 : Vec Ideal S7x1x256x256 .f32) (x1 : Vec Ideal S1x1x512x128 .f32) (x2 : Vec Ideal S1x1x1024x128 .f32)
    (x3 : Vec Ideal S1x2x1x1024x128 .f32) (x4 : Vec Ideal S1x1x512x128 .f32) (s : Step) (hL : Loads i x0 x1 x2 x3 x4 s) :
    sout0_A_0 c i arg2 harg2 arg3 harg3 arg4 harg4 arg5 harg5 arg6 harg6 arg7 harg7 arg8 harg8 hc0 hc1 hc2 x0 x1 x2 x3 x4 = gr s.w := by
  unfold sout0_A_0
  rw [View.read_writes_eq_canon _ _ _ (scover0_A_0 c i arg2 harg2 arg3 harg3 arg4 harg4 arg5 harg5 arg6 harg6 arg7 harg7 arg8 harg8 hc0 hc1 hc2 x0 x1 x2 x3 x4)]
  unfold kernelRun0_A
  dsimp only
  sl_unfold_words
  simp only [View.readAt_eq_ld, harg2.read_unread, harg3.read_unread, harg4.read_unread, harg5.read_unread,
    harg6.read_unread, harg8.read_unread]
  refine (View.canon_unit_zero zero2 _ _).trans ?_
  exact stored_w s _ _ _ _ _ _ _ _ ((congrArg k0_pay3 (ld_512 x1 _)).trans hL.kap)
    ((congrArg k0_pay13 (ld_512 x4 _)).trans hL.q) ((congrArg k0_pay5 (ld_1024 x2 _)).trans hL.m1)
    ((congrArg k0_pay6 (ld_1024 x2 _)).trans hL.m2) (hL.h11 _) (hL.h12 _) (hL.h21 _) (hL.h22 _) (hL.x _) (hL.xp _) hL.fl

/-- A later step leaves its `w`. -/
theorem soutB (c : Dev nD) (i : grid0.Coords)
    (arg2 : Memref sig .tc .vmem S7x1x256x256 .f32) (harg2 : arg2.IsWhole)
    (arg3 : Memref sig .tc .vmem S1x1x512x128 .f32) (harg3 : arg3.IsWhole)
    (arg4 : Memref sig .tc .vmem S1x1x1024x128 .f32) (harg4 : arg4.IsWhole)
    (arg5 : Memref sig .tc .vmem S1x2x1x1024x128 .f32) (harg5 : arg5.IsWhole)
    (arg6 : Memref sig .tc .vmem S1x1x512x128 .f32) (harg6 : arg6.IsWhole)
    (arg7 : Memref sig .tc .vmem S1x1x256x256 .f32) (harg7 : arg7.IsWhole)
    (arg8 : Memref sig .tc .vmem S256x256 .f32) (harg8 : arg8.IsWhole)
    (hc0 : cond0_0 i) (hc1 : cond0_1 i) (hc2 : ¬cond0_2 i)
    (x0 : Vec Ideal S7x1x256x256 .f32) (x1 : Vec Ideal S1x1x512x128 .f32) (x2 : Vec Ideal S1x1x1024x128 .f32)
    (x3 : Vec Ideal S1x2x1x1024x128 .f32) (x4 : Vec Ideal S1x1x512x128 .f32) (xs0 : Vec Ideal S256x256 .f32) (s : Step) (hL : Loads i x0 x1 x2 x3 x4 s) :
    sout0_B_0 c i arg2 harg2 arg3 harg3 arg4 harg4 arg5 harg5 arg6 harg6 arg7 harg7 arg8 harg8 hc0 hc1 hc2 x0 x1 x2 x3 x4 xs0 = gr s.w := by
  unfold sout0_B_0
  rw [View.read_writes_eq_canon _ _ _ (scover0_B_0 c i arg2 harg2 arg3 harg3 arg4 harg4 arg5 harg5 arg6 harg6 arg7 harg7 arg8 harg8 hc0 hc1 hc2 x0 x1 x2 x3 x4 xs0)]
  unfold kernelRun0_B
  dsimp only
  sl_unfold_words
  simp only [View.readAt_eq_ld, harg2.read_unread, harg3.read_unread, harg4.read_unread, harg5.read_unread,
    harg6.read_unread, harg8.read_unread]
  refine (View.canon_unit_zero zero2 _ _).trans ?_
  exact stored_w s _ _ _ _ _ _ _ _ ((congrArg k0_pay3 (ld_512 x1 _)).trans hL.kap)
    ((congrArg k0_pay13 (ld_512 x4 _)).trans hL.q) ((congrArg k0_pay5 (ld_1024 x2 _)).trans hL.m1)
    ((congrArg k0_pay6 (ld_1024 x2 _)).trans hL.m2) (hL.h11 _) (hL.h12 _) (hL.h21 _) (hL.h22 _) (hL.x _) (hL.xp _) hL.fl

/-- A later step emits the result of the step before. -/
theorem outB (c : Dev nD) (i : grid0.Coords)
    (arg2 : Memref sig .tc .vmem S7x1x256x256 .f32) (harg2 : arg2.IsWhole)
    (arg3 : Memref sig .tc .vmem S1x1x512x128 .f32) (harg3 : arg3.IsWhole)
    (arg4 : Memref sig .tc .vmem S1x1x1024x128 .f32) (harg4 : arg4.IsWhole)
    (arg5 : Memref sig .tc .vmem S1x2x1x1024x128 .f32) (harg5 : arg5.IsWhole)
    (arg6 : Memref sig .tc .vmem S1x1x512x128 .f32) (harg6 : arg6.IsWhole)
    (arg7 : Memref sig .tc .vmem S1x1x256x256 .f32) (harg7 : arg7.IsWhole)
    (arg8 : Memref sig .tc .vmem S256x256 .f32) (harg8 : arg8.IsWhole)
    (hc0 : cond0_0 i) (hc1 : cond0_1 i) (hc2 : ¬cond0_2 i)
    (x0 : Vec Ideal S7x1x256x256 .f32) (x1 : Vec Ideal S1x1x512x128 .f32) (x2 : Vec Ideal S1x1x1024x128 .f32)
    (x3 : Vec Ideal S1x2x1x1024x128 .f32) (x4 : Vec Ideal S1x1x512x128 .f32) (wp : Grid) (s : Step) (hL : Loads i x0 x1 x2 x3 x4 s) :
    out0_B_5 c i arg2 harg2 arg3 harg3 arg4 harg4 arg5 harg5 arg6 harg6 arg7 harg7 arg8 harg8 hc0 hc1 hc2 x0 x1 x2 x3 x4 (gr wp) = k0_pay2 (F := Ideal) (gr (s.emit wp)) := by
  unfold out0_B_5
  rw [View.read_writes_eq_canon _ _ _ (cover0_B_5 c i arg2 harg2 arg3 harg3 arg4 harg4 arg5 harg5 arg6 harg6 arg7 harg7 arg8 harg8 hc0 hc1 hc2 x0 x1 x2 x3 x4 (gr wp))]
  unfold kernelRun0_B
  dsimp only
  sl_unfold_words
  simp only [View.readAt_eq_ld, harg2.read_unread, harg3.read_unread, harg4.read_unread, harg5.read_unread,
    harg6.read_unread, harg8.read_unread]
  refine (View.canon_unit_zero zero4 _ _).trans ?_
  exact stored_out s wp _ _ _ _ _ _ _ _ ((congrArg k0_pay3 (ld_512 x1 _)).trans hL.kap)
    ((congrArg k0_pay13 (ld_512 x4 _)).trans hL.q) ((congrArg k0_pay5 (ld_1024 x2 _)).trans hL.m1)
    ((congrArg k0_pay6 (ld_1024 x2 _)).trans hL.m2) (hL.h11 _) (hL.h12 _) (hL.h21 _) (hL.h22 _) (hL.x _) (hL.xp _)
    (ld_grid _ _)

/-- The last point emits the carried grid. -/
theorem outC (c : Dev nD) (i : grid0.Coords)
    (arg2 : Memref sig .tc .vmem S7x1x256x256 .f32) (harg2 : arg2.IsWhole)
    (arg3 : Memref sig .tc .vmem S1x1x512x128 .f32) (harg3 : arg3.IsWhole)
    (arg4 : Memref sig .tc .vmem S1x1x1024x128 .f32) (harg4 : arg4.IsWhole)
    (arg5 : Memref sig .tc .vmem S1x2x1x1024x128 .f32) (harg5 : arg5.IsWhole)
    (arg6 : Memref sig .tc .vmem S1x1x512x128 .f32) (harg6 : arg6.IsWhole)
    (arg7 : Memref sig .tc .vmem S1x1x256x256 .f32) (harg7 : arg7.IsWhole)
    (arg8 : Memref sig .tc .vmem S256x256 .f32) (harg8 : arg8.IsWhole)
    (hc0 : ¬cond0_0 i) (hc2 : cond0_2 i)
    (x0 : Vec Ideal S7x1x256x256 .f32) (x1 : Vec Ideal S1x1x512x128 .f32) (x2 : Vec Ideal S1x1x1024x128 .f32)
    (x3 : Vec Ideal S1x2x1x1024x128 .f32) (x4 : Vec Ideal S1x1x512x128 .f32) (xs0 : Vec Ideal S256x256 .f32) :
    out0_C_5 c i arg2 harg2 arg3 harg3 arg4 harg4 arg5 harg5 arg6 harg6 arg7 harg7 arg8 harg8 hc0 hc2 x0 x1 x2 x3 x4 xs0 = k0_pay2 (F := Ideal) xs0 := by
  unfold out0_C_5
  rw [View.read_writes_eq_canon _ _ _ (cover0_C_5 c i arg2 harg2 arg3 harg3 arg4 harg4 arg5 harg5 arg6 harg6 arg7 harg7 arg8 harg8 hc0 hc2 x0 x1 x2 x3 x4 xs0)]
  unfold kernelRun0_C
  dsimp only
  sl_unfold_words
  simp only [View.readAt_eq_ld, harg2.read_unread, harg3.read_unread, harg4.read_unread, harg5.read_unread,
    harg6.read_unread, harg8.read_unread]
  refine (View.canon_unit_zero zero4 _ _).trans ?_
  rw [ld_grid]

end Cert.Pieces

end
-- ==== Proof.Host.lean ====
/- The five arrays that the kernel reads, at an index: each is one of the program's arguments, laid out anew before the
   launch. -/
module

public import proofs.«01_k».proof.Proof.Gen.KernelIdeal.Frame.Runs
public import Idealize.ShloMosaic.Lib.Pointwise
public import Idealize.ShloMosaic.Lib.StableHlo.ReadAt

@[expose] public section

set_option maxRecDepth 16384

noncomputable section

namespace Cert.Host

open Idealize.ShloMosaic Idealize.ShloMosaic.TcCoe Idealize.ShloMosaic.StableHlo Cert.KernelIdeal Cert.KernelIdeal.Gen

variable (m : (ℓ : Loc nD τ sig) → Buf (Elt Ideal) ℓ) (c : Dev nD)

/-- The state argument. -/
abbrev argX : Vec Ideal S2x7x65536 .f32 := m ((c : Thread nD τ).loc main_arg0)
/-- The κ argument. -/
abbrev argK : Vec Ideal S2x1x65536x7 .f32 := m ((c : Thread nD τ).loc main_arg1)
/-- The drift argument. -/
abbrev argM : Vec Ideal S2x2x65536x7 .f32 := m ((c : Thread nD τ).loc main_arg2)
/-- The diffusion argument. -/
abbrev argH : Vec Ideal S2x2x2x65536x7 .f32 := m ((c : Thread nD τ).loc main_arg3)
/-- The τ argument. -/
abbrev argT : Vec Ideal S2x1x65536x7 .f32 := m ((c : Thread nD τ).loc main_arg4)

/-- The state's array, time step first. -/
theorem V_x (k : Fin 7) (b : Fin 2) (i j : Fin 256) :
    (V m c main_v1 : Vec Ideal S7x2x256x256 .f32) (ix4 k b i j) = argX m c (ix3 b k ⟨i.val * 256 + j.val, by omega⟩) := by
  unfold V V0
  after_reads_at

/-- The κ array, rows of 128. -/
theorem V_kap (b : Fin 2) (k : Fin 7) (r : Fin 512) (l : Fin 128) :
    (V m c main_v3 : Vec Ideal S2x7x512x128 .f32) (ix4 b k r l) = argK m c (ix4 b 0 ⟨r.val * 128 + l.val, by omega⟩ k) := by
  unfold V V0
  after_reads_at

/-- The drift array, the two components alternating by rows of 128. -/
theorem V_m (b : Fin 2) (k : Fin 7) (r : Fin 1024) (l : Fin 128) :
    (V m c main_v7 : Vec Ideal S2x7x1024x128 .f32) (ix4 b k r l)
      = argM m c (ix4 b ⟨r.val % 2, by omega⟩ ⟨r.val / 2 * 128 + l.val, by omega⟩ k) := by
  unfold V V0
  after_reads_at

/-- The diffusion array, per row of the matrix the two columns alternating by rows of 128. -/
theorem V_h (b : Fin 2) (a : Fin 2) (k : Fin 7) (r : Fin 1024) (l : Fin 128) :
    (V m c main_v11 : Vec Ideal S2x2x7x1024x128 .f32) (ix5 b a k r l)
      = argH m c (ix5 b a ⟨r.val % 2, by omega⟩ ⟨r.val / 2 * 128 + l.val, by omega⟩ k) := by
  unfold V V0
  after_reads_at

/-- The τ array, rows of 128. -/
theorem V_tau (b : Fin 2) (k : Fin 7) (r : Fin 512) (l : Fin 128) :
    (V m c main_v13 : Vec Ideal S2x7x512x128 .f32) (ix4 b k r l) = argT m c (ix4 b 0 ⟨r.val * 128 + l.val, by omega⟩ k) := by
  unfold V V0
  after_reads_at

end Cert.Host

end
-- ==== Proof.Blocks.lean ====
/- The blocks that a grid point loads, at an index: point `t` is batch entry `t / 8`, time step `t % 8`. -/
module

public import proofs.«01_k».proof.Proof.Host
public import Idealize.ShloMosaic.Lib.Pipeline.ValueKit.Point

@[expose] public section

set_option maxRecDepth 16384

noncomputable section

namespace Cert.Blocks

open Idealize.ShloMosaic Idealize.ShloMosaic.TcCoe Cert.KernelIdeal Cert.KernelIdeal.Gen Cert.Host

variable (m : (ℓ : Loc nD τ sig) → Buf (Elt Ideal) ℓ) (c : Dev nD)

/-- Where each window's block lies at a point. -/
theorem idx0 (t : Fin grid0.N) : win0_0.index t = ![0, t.val / 8, 0, 0] := by revert t; decide +kernel
/-- The block of `κ` at grid point `t`: its batch entry, its time step (the last one again at the point after it). -/
theorem idx1 (t : Fin grid0.N) : win0_1.index t = ![t.val / 8, min (t.val % 8) 6, 0, 0] := by revert t; decide +kernel
/-- The block of the drift, likewise. -/
theorem idx2 (t : Fin grid0.N) : win0_2.index t = ![t.val / 8, min (t.val % 8) 6, 0, 0] := by revert t; decide +kernel
/-- The block of the diffusion matrix, likewise. -/
theorem idx3 (t : Fin grid0.N) : win0_3.index t = ![t.val / 8, 0, min (t.val % 8) 6, 0, 0] := by revert t; decide +kernel
/-- The block of `τ`, likewise. -/
theorem idx4 (t : Fin grid0.N) : win0_4.index t = ![t.val / 8, min (t.val % 8) 6, 0, 0] := by revert t; decide +kernel

/-- The state's block: all time steps of the point's batch entry. -/
theorem blk_x (t : Fin cfg0.N) (b : Fin 2) (hb : t.val / 8 = b.val) (k : Fin 7) (i j : Fin 256) :
    (iblk m c 0 t : Vec Ideal S7x1x256x256 .f32) (ix4 k 0 i j) = argX m c (ix3 b k ⟨i.val * 256 + j.val, by omega⟩) := by
  rw [← V_x]
  blk_ext [iblk, idx0 t]

/-- The κ block: that of the point's batch entry and time step. -/
theorem blk_kap (t : Fin cfg0.N) (b : Fin 2) (k : Fin 7) (ht : t.val = 8 * b.val + k.val) (r : Fin 512) (l : Fin 128) :
    (iblk m c 1 t : Vec Ideal S1x1x512x128 .f32) (ix4 0 0 r l) = argK m c (ix4 b 0 ⟨r.val * 128 + l.val, by omega⟩ k) := by
  rw [← V_kap]
  blk_ext [iblk, idx1 t]

/-- The drift block. -/
theorem blk_m (t : Fin cfg0.N) (b : Fin 2) (k : Fin 7) (ht : t.val = 8 * b.val + k.val) (r : Fin 1024) (l : Fin 128) :
    (iblk m c 2 t : Vec Ideal S1x1x1024x128 .f32) (ix4 0 0 r l)
      = argM m c (ix4 b ⟨r.val % 2, by omega⟩ ⟨r.val / 2 * 128 + l.val, by omega⟩ k) := by
  rw [← V_m]
  blk_ext [iblk, idx2 t]

/-- The diffusion block, both rows of the matrix. -/
theorem blk_h (t : Fin cfg0.N) (b : Fin 2) (k : Fin 7) (ht : t.val = 8 * b.val + k.val) (a : Fin 2) (r : Fin 1024) (l : Fin 128) :
    (iblk m c 3 t : Vec Ideal S1x2x1x1024x128 .f32) (ix5 0 a 0 r l)
      = argH m c (ix5 b a ⟨r.val % 2, by omega⟩ ⟨r.val / 2 * 128 + l.val, by omega⟩ k) := by
  rw [← V_h]
  blk_ext [iblk, idx3 t]

/-- The τ block. -/
theorem blk_tau (t : Fin cfg0.N) (b : Fin 2) (k : Fin 7) (ht : t.val = 8 * b.val + k.val) (r : Fin 512) (l : Fin 128) :
    (iblk m c 4 t : Vec Ideal S1x1x512x128 .f32) (ix4 0 0 r l) = argT m c (ix4 b 0 ⟨r.val * 128 + l.val, by omega⟩ k) := by
  rw [← V_tau]
  blk_ext [iblk, idx4 t]

end Cert.Blocks

end
-- ==== Proof.Inputs.lean ====
/- The program's arguments as real grids: what finiteness of `x`, `κ`, `m`, `H` and `τ ≠ 0` give. Entry `n` of a flat
   grid axis is row `n / 256`, column `n % 256`. -/
module

public import proofs.«01_k».proof.Proof.Stencil
public import Idealize.ShloMosaic.Lib.Pointwise
public import Idealize.ShloMosaic.PureOps.Ideal

@[expose] public section

noncomputable section

namespace Cert.Inputs

open Idealize.ShloMosaic Cert.Stencil

/-- The flat position of a grid point. -/
def flat (i j : Fin 256) : Fin 65536 := ⟨i.val * 256 + j.val, by omega⟩

/-- The states: batch entry, time step, grid point. -/
abbrev ArrX := (⟨3, ![2, 7, 65536]⟩ : Shape).Idx → EReal
/-- `κ` and `τ`: batch entry, one, grid point, time step. -/
abbrev ArrK := (⟨4, ![2, 1, 65536, 7]⟩ : Shape).Idx → EReal
/-- The drift: batch entry, component, grid point, time step. -/
abbrev ArrM := (⟨4, ![2, 2, 65536, 7]⟩ : Shape).Idx → EReal
/-- The diffusion matrix: batch entry, row, column, grid point, time step. -/
abbrev ArrH := (⟨5, ![2, 2, 2, 65536, 7]⟩ : Shape).Idx → EReal

variable (X : ArrX) (K : ArrK) (M : ArrM) (H : ArrH) (T : ArrK)

/-- The arguments as real grids. -/
def reals : Fields where
  x b k i j := (X (ix3 b k (flat i j))).toReal
  kap b k i j := (K (ix4 b 0 (flat i j) k)).toReal
  m1 b k i j := (M (ix4 b 0 (flat i j) k)).toReal
  m2 b k i j := (M (ix4 b 1 (flat i j) k)).toReal
  h11 b k i j := (H (ix5 b 0 0 (flat i j) k)).toReal
  h12 b k i j := (H (ix5 b 0 1 (flat i j) k)).toReal
  h21 b k i j := (H (ix5 b 1 0 (flat i j) k)).toReal
  h22 b k i j := (H (ix5 b 1 1 (flat i j) k)).toReal
  q b k i j := (Ideal.div 1 (T (ix4 b 0 (flat i j) k) * T (ix4 b 0 (flat i j) k))).toReal

/-- The states and the coefficient fields are finite, and `τ` is not zero. -/
structure Finite : Prop where
  x : ∀ i, X i ≠ ⊤ ∧ X i ≠ ⊥
  kap : ∀ i, K i ≠ ⊤ ∧ K i ≠ ⊥
  m : ∀ i, M i ≠ ⊤ ∧ M i ≠ ⊥
  h : ∀ i, H i ≠ ⊤ ∧ H i ≠ ⊥
  tau : ∀ i, T i ≠ 0

/-- The reciprocal of a square of something that is not zero is a real number. -/
theorem recip_real (t : EReal) (ht : t ≠ 0) : Ideal.div 1 (t * t) = (((Ideal.div 1 (t * t)).toReal : ℝ) : EReal) := by
  induction t with
  | bot => simp [Ideal.div]
  | top => simp [Ideal.div]
  | coe r =>
    have hr : r ≠ 0 := fun h => ht (by rw [h]; rfl)
    rw [← EReal.coe_mul, Ideal.div_coe (mul_ne_zero hr hr), one_mul, EReal.toReal_coe]

namespace Finite
variable {X K M H T} (h : Finite X K M H T)
include h

/-- Each argument at a grid point is the real that `reals` takes from it. -/
theorem x_at (b k i j) : X (ix3 b k (flat i j)) = (((reals X K M H T).x b k i j : ℝ) : EReal) :=
  (EReal.coe_toReal (h.x _).1 (h.x _).2).symm
/-- The same for `κ`. -/
theorem kap_at (b k i j) : K (ix4 b 0 (flat i j) k) = (((reals X K M H T).kap b k i j : ℝ) : EReal) :=
  (EReal.coe_toReal (h.kap _).1 (h.kap _).2).symm
/-- The same for the first drift component. -/
theorem m1_at (b k i j) : M (ix4 b 0 (flat i j) k) = (((reals X K M H T).m1 b k i j : ℝ) : EReal) :=
  (EReal.coe_toReal (h.m _).1 (h.m _).2).symm
/-- The same for the second drift component. -/
theorem m2_at (b k i j) : M (ix4 b 1 (flat i j) k) = (((reals X K M H T).m2 b k i j : ℝ) : EReal) :=
  (EReal.coe_toReal (h.m _).1 (h.m _).2).symm
/-- The same for the diffusion matrix, entry by entry. -/
theorem h11_at (b k i j) : H (ix5 b 0 0 (flat i j) k) = (((reals X K M H T).h11 b k i j : ℝ) : EReal) :=
  (EReal.coe_toReal (h.h _).1 (h.h _).2).symm
/-- Row one, column two. -/
theorem h12_at (b k i j) : H (ix5 b 0 1 (flat i j) k) = (((reals X K M H T).h12 b k i j : ℝ) : EReal) :=
  (EReal.coe_toReal (h.h _).1 (h.h _).2).symm
/-- Row two, column one. -/
theorem h21_at (b k i j) : H (ix5 b 1 0 (flat i j) k) = (((reals X K M H T).h21 b k i j : ℝ) : EReal) :=
  (EReal.coe_toReal (h.h _).1 (h.h _).2).symm
/-- Row two, column two. -/
theorem h22_at (b k i j) : H (ix5 b 1 1 (flat i j) k) = (((reals X K M H T).h22 b k i j : ℝ) : EReal) :=
  (EReal.coe_toReal (h.h _).1 (h.h _).2).symm
/-- The reciprocal of `τ²` is the real `q`. -/
theorem q_at (b k i j) : Ideal.div 1 (T (ix4 b 0 (flat i j) k) * T (ix4 b 0 (flat i j) k))
    = (((reals X K M H T).q b k i j : ℝ) : EReal) :=
  recip_real _ (h.tau _)

end Finite

end Cert.Inputs

end
-- ==== Proof.Point.lean ====
/- The blocks loaded at batch entry `b`, time step `k` hold the real grids of that step. -/
module

public import proofs.«01_k».proof.Proof.Pieces
public import proofs.«01_k».proof.Proof.Blocks
public import proofs.«01_k».proof.Proof.Inputs

@[expose] public section

set_option maxRecDepth 16384

noncomputable section

namespace Cert.Point

open Idealize.ShloMosaic Idealize.ShloMosaic.TcCoe Cert.KernelIdeal Cert.KernelIdeal.Gen Cert.Stencil Cert.Lift Cert.Host Cert.Blocks
  Cert.Inputs Cert.Pieces

/-! ### The payloads that unpack a block, at a grid point -/

/-- The unpacked `κ` at a grid point. -/
theorem pay3_at (x : Vec Ideal S1x1x512x128 .f32) (i j : Fin 256) :
    k0_pay3 x (ix2 i j) = x (ix4 0 0 ⟨i.val * 2 + j.val / 128, by omega⟩ ⟨j.val % 128, by omega⟩) := by
  pointwise [k0_pay3]

/-- The unpacked reciprocal of `τ²` at a grid point. -/
theorem pay13_at (x : Vec Ideal S1x1x512x128 .f32) (i j : Fin 256) :
    k0_pay13 x (ix2 i j) = Ideal.div 1 (x (ix4 0 0 ⟨i.val * 2 + j.val / 128, by omega⟩ ⟨j.val % 128, by omega⟩)
      * x (ix4 0 0 ⟨i.val * 2 + j.val / 128, by omega⟩ ⟨j.val % 128, by omega⟩)) := by
  pointwise [k0_pay13]

/-- The first drift component, unpacked. -/
theorem pay5_at (x : Vec Ideal S1x1x1024x128 .f32) (i j : Fin 256) :
    k0_pay5 x (ix2 i j) = x (ix4 0 0 ⟨i.val * 4 + j.val / 128 * 2, by omega⟩ ⟨j.val % 128, by omega⟩) := by
  pointwise [k0_pay5, k0_pay4]

/-- The second drift component, unpacked. -/
theorem pay6_at (x : Vec Ideal S1x1x1024x128 .f32) (i j : Fin 256) :
    k0_pay6 x (ix2 i j) = x (ix4 0 0 ⟨i.val * 4 + j.val / 128 * 2 + 1, by omega⟩ ⟨j.val % 128, by omega⟩) := by
  pointwise [k0_pay6, k0_pay4]

/-- The diffusion matrix unpacked: row one, column one. -/
theorem pay8_at (x : Vec Ideal S1x2x1x1024x128 .f32) (i j : Fin 256) (h) :
    k0_pay8 (View.ld x (Rect.unit ![0, 0, 0, 0, 0] ![1, 1, 1, 1024, 128] h)) (ix2 i j)
      = x (ix5 0 0 0 ⟨i.val * 4 + j.val / 128 * 2, by omega⟩ ⟨j.val % 128, by omega⟩) := by
  pointwise [k0_pay8, k0_pay7]

/-- Row one, column two. -/
theorem pay9_at (x : Vec Ideal S1x2x1x1024x128 .f32) (i j : Fin 256) (h) :
    k0_pay9 (View.ld x (Rect.unit ![0, 0, 0, 0, 0] ![1, 1, 1, 1024, 128] h)) (ix2 i j)
      = x (ix5 0 0 0 ⟨i.val * 4 + j.val / 128 * 2 + 1, by omega⟩ ⟨j.val % 128, by omega⟩) := by
  pointwise [k0_pay9, k0_pay7]

/-- Row two, column one. -/
theorem pay11_at (x : Vec Ideal S1x2x1x1024x128 .f32) (i j : Fin 256) (h) :
    k0_pay11 (View.ld x (Rect.unit ![0, 1, 0, 0, 0] ![1, 1, 1, 1024, 128] h)) (ix2 i j)
      = x (ix5 0 1 0 ⟨i.val * 4 + j.val / 128 * 2, by omega⟩ ⟨j.val % 128, by omega⟩) := by
  pointwise [k0_pay11, k0_pay10]

/-- Row two, column two. -/
theorem pay12_at (x : Vec Ideal S1x2x1x1024x128 .f32) (i j : Fin 256) (h) :
    k0_pay12 (View.ld x (Rect.unit ![0, 1, 0, 0, 0] ![1, 1, 1, 1024, 128] h)) (ix2 i j)
      = x (ix5 0 1 0 ⟨i.val * 4 + j.val / 128 * 2 + 1, by omega⟩ ⟨j.val % 128, by omega⟩) := by
  pointwise [k0_pay12, k0_pay10]

/-- The loaded state at a grid point. -/
theorem pay18_at (x : Vec Ideal S7x1x256x256 .f32) (n : ℕ) (k : Fin 7) (hn : n = k.val) (i j : Fin 256) (h) :
    k0_pay18 (View.ld x (Rect.unit ![n, 0, 0, 0] ![1, 1, 256, 256] h)) (ix2 i j) = x (ix4 k 0 i j) := by
  subst hn
  pointwise [k0_pay18]

/-- The loaded state of the step before at a grid point. -/
theorem pay22_at (x : Vec Ideal S7x1x256x256 .f32) (n : ℕ) (k : Fin 7) (hn : n = k.val) (i j : Fin 256) (h) :
    k0_pay22 (View.ld x (Rect.unit ![n, 0, 0, 0] ![1, 1, 256, 256] h)) (ix2 i j) = x (ix4 k 0 i j) := by
  subst hn
  pointwise [k0_pay22]

/-- Two arrays of the grid's shape that agree at every row and column. -/
theorem grid_ext (v : FVec Ideal S256x256 .f32) (g : Grid) (h : ∀ i j, v (ix2 i j) = ((g i j : ℝ) : EReal)) : v = gr g := by
  funext y
  idx_vars y
  exact h _ _

/-- Two spellings of one entry of a field. -/
theorem spot4 {b : Fin 2} {k : Fin 7} {p p' : Fin 2} {n n' : Fin 65536} (hp : p = p') (hn : n.val = n'.val) :
    (ix4 b p n k : (⟨4, ![2, 2, 65536, 7]⟩ : Shape).Idx) = ix4 b p' n' k := by
  rw [hp, Fin.ext hn]

/-- Two positions of the same number are one index of the arrays of fields. -/
theorem spot1 {b : Fin 2} {k : Fin 7} {n n' : Fin 65536} (hn : n.val = n'.val) :
    (ix4 b 0 n k : (⟨4, ![2, 1, 65536, 7]⟩ : Shape).Idx) = ix4 b 0 n' k := by
  rw [Fin.ext hn]

/-- The same at five axes. -/
theorem spot5 {b a : Fin 2} {k : Fin 7} {p p' : Fin 2} {n n' : Fin 65536} (hp : p = p') (hn : n.val = n'.val) :
    (ix5 b a p n k : (⟨5, ![2, 2, 2, 65536, 7]⟩ : Shape).Idx) = ix5 b a p' n' k := by
  rw [hp, Fin.ext hn]

/-- The step before, or the first step itself. -/
def before (k : Fin 7) : Fin 7 := if k = 0 then 0 else k - 1

/-- The real grids of time step `k`. -/
def step (f : Fields) (b : Fin 2) (k : Fin 7) : Step where
  kap := f.kap b k
  m1 := f.m1 b k
  m2 := f.m2 b k
  h11 := f.h11 b k
  h12 := f.h12 b k
  h21 := f.h21 b k
  h22 := f.h22 b k
  q := f.q b k
  x := f.x b k
  xp := f.x b (before k)
  fl := if k = 0 then 0 else 1

/-- The carried grid after a step is the stencil's `w`. -/
theorem step_w (f : Fields) (b : Fin 2) (k : Fin 7) : (step f b k).w = f.w b k := by
  have hz : (step f b k).z = f.z b k := by
    show f.q b k * (f.x b k + _ - (step f b k).fl * f.x b (before k)) = f.q b k * (f.u b k - f.xprev b k)
    have : (step f b k).fl * f.x b (before k) = f.xprev b k := by
      by_cases hk : k = 0
      · simp [step, Fields.xprev, hk]
      · simp [step, Fields.xprev, hk, before]
    rw [this]; rfl
  show (step f b k).z + applyAT _ _ _ _ _ _ (step f b k).z = _
  rw [hz]; rfl

variable (m : (ℓ : Loc nD τ sig) → Buf (Elt Ideal) ℓ) (c : Dev nD)

/-- The real grids of the program's arguments. -/
abbrev fields : Fields := reals (argX m c) (argK m c) (argM m c) (argH m c) (argT m c)

/-- The word of a time step, read as a number. -/
theorem word_k (k : Fin 7) : (Scalar.indexCast (BitVec.ofNat 32 k.val)).toNat = k.val := by revert k; decide
/-- The word of the step before, held at zero. -/
theorem word_before (k : Fin 7) :
    (Scalar.indexCast (Scalar.maxsi (Scalar.subi (BitVec.ofNat 32 k.val) 1#32) 0#32)).toNat = (before k).val := by
  revert k; decide
/-- Whether the time step is not the first. -/
theorem word_flag (k : Fin 7) : Scalar.cmpi .sgt (BitVec.ofNat 32 k.val) 0#32 = if k = 0 then 0#1 else 1#1 := by
  revert k; decide

/-- The blocks of a point hold its step's grids. -/
theorem loads (h : Finite (argX m c) (argK m c) (argM m c) (argH m c) (argT m c)) (t : Fin cfg0.N) (b : Fin 2) (k : Fin 7)
    (ht : t.val = 8 * b.val + k.val) :
    Loads (grid0.coords t) (iblk m c 0 t) (iblk m c 1 t) (iblk m c 2 t) (iblk m c 3 t) (iblk m c 4 t)
      (step (fields m c) b k) := by
  have hc : (grid0.coords t 1).val = k.val := by
    have e : (grid0.coords t 1).val = t.val / 1 % 8 := Pipeline.Grid.coords_val t 1 (by decide) rfl
    omega
  have hb : t.val / 8 = b.val := by omega
  refine ⟨?_, ?_, ?_, ?_, fun _ => ?_, fun _ => ?_, fun _ => ?_, fun _ => ?_, fun _ => ?_, fun _ => ?_, ?_⟩
  · refine grid_ext _ _ fun i j => Eq.trans ?_ (h.kap_at b k i j)
    rw [pay3_at, blk_kap m c t b k ht]; exact congrArg (argK m c) (spot1 (by simp only [flat]; omega))
  · refine grid_ext _ _ fun i j => Eq.trans ?_ (h.q_at b k i j)
    rw [pay13_at, blk_tau m c t b k ht]
    exact congrArg (fun p => Ideal.div 1 (argT m c p * argT m c p)) (spot1 (by simp only [flat]; omega))
  · refine grid_ext _ _ fun i j => Eq.trans ?_ (h.m1_at b k i j)
    rw [pay5_at, blk_m m c t b k ht]
    exact congrArg (argM m c) (spot4 (Fin.ext (by simp only [Fin.isValue, Fin.coe_ofNat_eq_mod]; omega)) (by simp only [flat]; omega))
  · refine grid_ext _ _ fun i j => Eq.trans ?_ (h.m2_at b k i j)
    rw [pay6_at, blk_m m c t b k ht]
    exact congrArg (argM m c) (spot4 (Fin.ext (by simp only [Fin.isValue, Fin.coe_ofNat_eq_mod]; omega)) (by simp only [flat]; omega))
  · refine grid_ext _ _ fun i j => Eq.trans ?_ (h.h11_at b k i j)
    rw [pay8_at, blk_h m c t b k ht]
    exact congrArg (argH m c) (spot5 (Fin.ext (by simp only [Fin.isValue, Fin.coe_ofNat_eq_mod]; omega)) (by simp only [flat]; omega))
  · refine grid_ext _ _ fun i j => Eq.trans ?_ (h.h12_at b k i j)
    rw [pay9_at, blk_h m c t b k ht]
    exact congrArg (argH m c) (spot5 (Fin.ext (by simp only [Fin.isValue, Fin.coe_ofNat_eq_mod]; omega)) (by simp only [flat]; omega))
  · refine grid_ext _ _ fun i j => Eq.trans ?_ (h.h21_at b k i j)
    rw [pay11_at, blk_h m c t b k ht]
    exact congrArg (argH m c) (spot5 (Fin.ext (by simp only [Fin.isValue, Fin.coe_ofNat_eq_mod]; omega)) (by simp only [flat]; omega))
  · refine grid_ext _ _ fun i j => Eq.trans ?_ (h.h22_at b k i j)
    rw [pay12_at, blk_h m c t b k ht]
    exact congrArg (argH m c) (spot5 (Fin.ext (by simp only [Fin.isValue, Fin.coe_ofNat_eq_mod]; omega)) (by simp only [flat]; omega))
  · refine grid_ext _ _ fun i j => Eq.trans ?_ (h.x_at b k i j)
    rw [pay18_at _ _ k (by rw [hc]; exact word_k k), blk_x m c t b hb]; rfl
  · refine grid_ext _ _ fun i j => Eq.trans ?_ (h.x_at b (before k) i j)
    rw [pay22_at _ _ (before k) (by rw [hc]; exact word_before k), blk_x m c t b hb]; rfl
  · rw [hc, word_flag]
    by_cases hk : k = 0
    · simp only [step, hk, if_true]; exact bcast_zero
    · simp only [step, hk, if_false]; exact bcast_one

end Cert.Point

end
-- ==== Proof.Fold.lean ====
/- The carried grid after each grid point and the array the kernel's region leaves: block `(b, k)` of the result holds the
   stencil's real grid `kerOut b k`. -/
module

public import proofs.«01_k».proof.Proof.Point
public import Idealize.ShloMosaic.Lib.Pipeline.ValueKit

@[expose] public section

set_option maxRecDepth 16384

noncomputable section

namespace Cert.Fold

open Idealize.ShloMosaic Idealize.ShloMosaic.TcCoe Idealize.ShloMosaic.Tactic Cert.KernelIdeal Cert.KernelIdeal.Gen
open Cert.Stencil Cert.Lift Cert.Host Cert.Inputs Cert.Pieces Cert.Point

/-- What a later step emits over the step before's carried grid is the result of the step before. -/
theorem step_emit (f : Fields) (b : Fin 2) (j : Fin 7) (hj : j ≠ 6) : (step f b (j + 1)).emit (f.w b j) = f.kerOut b j := by
  have h0 : j + 1 ≠ 0 := by revert j; decide
  have hb : before (j + 1) = j := by revert j; decide
  unfold Fields.kerOut
  rw [if_neg hj]
  show f.w b j + f.q b (j + 1) * (f.x b (before (j + 1)) - f.u b (j + 1)) = _
  rw [hb]

/-- The time step after, where there is one. -/
theorem next_val (k : Fin 7) (hk : k ≠ 6) : (k + 1).val = k.val + 1 := by revert k; decide

variable (m : (ℓ : Loc nD τ sig) → Buf (Elt Ideal) ℓ) (c : Dev nD)
variable (h : Finite (argX m c) (argK m c) (argM m c) (argH m c) (argT m c))
include h

/-- The carried grid after time step `k` is the stencil's `w`. -/
theorem carried (t : Fin cfg0.N) (b : Fin 2) (k : Fin 7) (ht : t.val = 8 * b.val + k.val) :
    (outsAt0 m c t.val t.isLt).2 = gr ((fields m c).w b k) := by
  rw [← step_w]
  by_cases hk : k.val = 0
  · have h0 : t.val % 8 ≤ 6 := by omega
    have h1 : ¬1 ≤ t.val % 8 := by omega
    have h2 : ¬t.val % 8 = 7 := by omega
    refine (congrArg Prod.snd (outsAt0_A m c t h0 h1 h2)).trans ?_
    dsimp only
    exact soutA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (fun h => h2 ((hcond0_2 t).mp h))
      (iblk m c 0 t) (iblk m c 1 t) (iblk m c 2 t) (iblk m c 3 t) (iblk m c 4 t) _ (loads m c h t b k ht)
  · have h0 : t.val % 8 ≤ 6 := by omega
    have h1 : 1 ≤ t.val % 8 := by omega
    have h2 : ¬t.val % 8 = 7 := by omega
    refine (congrArg Prod.snd (outsAt0_B m c t h0 h1 h2)).trans ?_
    dsimp only
    exact soutB c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) ((hcond0_1 t).mpr h1) (fun h => h2 ((hcond0_2 t).mp h))
      (iblk m c 0 t) (iblk m c 1 t) (iblk m c 2 t) (iblk m c 3 t) (iblk m c 4 t) _ _ (loads m c h t b k ht)

/-- The block the point after time step `k` emits is the result at `k`. -/
theorem emitted (t : Fin cfg0.N) (b : Fin 2) (k : Fin 7) (ht : t.val = 8 * b.val + k.val + 1) :
    (outsAt0 m c t.val t.isLt).1 = k0_pay2 (F := Ideal) (gr ((fields m c).kerOut b k)) := by
  have hN : t.val < 16 := lt_of_lt_of_eq t.isLt N_0
  have hp := carried m c h ⟨t.val - 1, by omega⟩ b k (by simp only; omega)
  dsimp only at hp
  by_cases hk : k = 6
  · subst hk
    have h0 : ¬t.val % 8 ≤ 6 := by omega
    have h2 : t.val % 8 = 7 := by omega
    refine (congrArg Prod.fst (outsAt0_C m c t h0 h2)).trans ?_
    dsimp only
    refine (outC c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_2 t).mpr h2)
      (iblk m c 0 t) (iblk m c 1 t) (iblk m c 2 t) (iblk m c 3 t) (iblk m c 4 t) _).trans ?_
    rw [hp]
    unfold Fields.kerOut
    rw [if_pos rfl]
  · have hk' : k.val ≠ 6 := fun e => hk (Fin.ext e)
    have hs : (k + 1).val = k.val + 1 := next_val k hk
    have h0 : t.val % 8 ≤ 6 := by omega
    have h1 : 1 ≤ t.val % 8 := by omega
    have h2 : ¬t.val % 8 = 7 := by omega
    refine (congrArg Prod.fst (outsAt0_B m c t h0 h1 h2)).trans ?_
    dsimp only
    rw [hp, ← step_emit _ _ _ hk]
    exact outB c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) ((hcond0_1 t).mpr h1) (fun h => h2 ((hcond0_2 t).mp h))
      (iblk m c 0 t) (iblk m c 1 t) (iblk m c 2 t) (iblk m c 3 t) (iblk m c 4 t) _ _ (loads m c h t b (k + 1) (by omega))

omit h in
/-- The block of the result at grid point `t` is that of the time step before. -/
theorem idx5 (t : Fin cfg0.N) : (cfg0.win 5).index t = ![t.val / 8, t.val % 8 - 1, 0, 0] := by
  revert t; decide +kernel

omit h in
/-- No block of the result is written back at the first point of a batch entry. -/
theorem flush5 (t : Fin cfg0.N) (hf : (cfg0.win 5).flush t = true) : 1 ≤ t.val % 8 := by
  revert t; decide +kernel

/-- The kernel's array of results. -/
def G (f : Fields) : FVec Ideal S2x7x256x256 .f32 := fun i => ((f.kerOut (i 0) (i 1) (i 2) (i 3) : ℝ) : EReal)

omit h in
/-- A block of results, at an index. -/
theorem pay2_at (g : Grid) (y : S1x1x256x256.Idx) : k0_pay2 (F := Ideal) (gr g) y = ((g (y 2) (y 3) : ℝ) : EReal) := by
  idx_vars y
  pointwise [k0_pay2, gr]
  rfl

/-- The region leaves the array of results. -/
theorem arr_eq : (dats m 0 c).arrAt 5 cfg0.N = G (fields m c) := by
  refine (dats m 0 c).arrAt_eq_of_covers 5 _ (by decide +kernel) fun t hf y => ?_
  have h1 := flush5 t hf
  have hN : t.val < 16 := lt_of_lt_of_eq t.isLt N_0
  blk_simp
  rw [after0_5, emitted m c h t ⟨t.val / 8, by omega⟩ ⟨t.val % 8 - 1, by omega⟩ (by simp only; omega)]
  have hy : ((win0_5.blk t).view.emb y : S2x7x256x256.Idx)
      = ix4 (⟨t.val / 8, by omega⟩ : Fin 2) (⟨t.val % 8 - 1, by omega⟩ : Fin 7) (y 2 : Fin 256) (y 3 : Fin 256) := by
    blk_ext [idx5 t]
  exact (pay2_at _ y).trans (congrArg (G (fields m c)) hy).symm

end Cert.Fold

end
-- ==== Proof.KernelRun.lean ====
/- The kernel's run, its result read: the region's array of results, flattened. -/
module

public import proofs.«01_k».proof.Proof.Fold

@[expose] public section

set_option maxRecDepth 16384

noncomputable section

namespace Cert.KernelRun

open Idealize.ShloMosaic Idealize.ShloMosaic.TcCoe Idealize.SL.Sem Idealize.ShloMosaic.StableHlo Idealize.ShloMosaic.Tactic Cert.KernelIdeal Cert.KernelIdeal.Gen
open Cert.Stencil Cert.Lift Cert.Host Cert.Inputs Cert.Fold Cert.Point

/-- The row and the column of a flat grid index. -/
def prow (n : Fin 65536) : Fin 256 := ⟨n.val / 256, by omega⟩
/-- The column of a flat grid index. -/
def pcol (n : Fin 65536) : Fin 256 := ⟨n.val % 256, by omega⟩

/-- The result, flat. -/
def result (f : Fields) : FVec Ideal S2x7x65536 .f32 := fun i => ((f.kerOut (i 0) (i 1) (prow (i 2)) (pcol (i 2)) : ℝ) : EReal)

/-- Flattening the array of results. -/
theorem flat_G (f : Fields) (h) : shapeCast S2x7x65536 (G f) h = result f := by
  funext y
  idx_vars y
  pointwise [G, result, prow, pcol]

variable (m : (ℓ : Loc nD τ sig) → Buf (Elt Ideal) ℓ) (ρ : Dev nD → PrngReg)

/-- The operation after the region flattens the region's array. -/
theorem tail_eq (V : Valuation τ sig (Elt Ideal)) : after hostOps1 V (Proc.devRef .tc main_v15)
    = shapeCast S2x7x65536 (V (Proc.devRef .tc main_v14) : FVec Ideal S2x7x256x256 .f32) shapeCasts_S2x7x256x256_S2x7x65536 := by
  after_results
  rfl

/-- After the run every device's result is the flat array of results of the fields that its arguments hold. -/
theorem run (h : ∀ c, Finite (argX m c) (argK m c) (argM m c) (argH m c) (argT m c)) :
    θ_run defs (onTc (τ := τ) (main (F := Ideal))) ⟨m, fun _ => 0, ρ⟩ (fun r => ∀ c : Dev nD,
      r.2.mem ((c.tc : Thread nD τ).loc main_v15) = result (fields m c)) := by
  refine (θ_run defs _ _).mono (fun r hr c => ?_) (run_main m ρ)
  refine ((hr c).2 main_v15 (Pipeline.mem_restRefs_of main_v15 (by decide) (by decide))).trans ?_
  refine (tail_eq _).trans ?_
  refine Eq.trans ?_ (flat_G (fields m c) shapeCasts_S2x7x256x256_S2x7x65536)
  refine congrArg (fun v : FVec Ideal S2x7x256x256 .f32 => shapeCast S2x7x65536 v shapeCasts_S2x7x256x256_S2x7x65536) ?_
  exact (Pipeline.withArrays_arr (cfgs 0).spec (launch0).win.arr_inj c (V0 m c) _ 5).trans (arr_eq m c (h c))

end Cert.KernelRun

end
-- ==== Proof.RefOps.lean ====
/- The reference's two indexed operations at an index: the read of the state at the table's entries, and the sum of
   contributions landing at the table's entries. -/
module

public import proofs.«01_k».proof.Proof.Gen.ReferenceIdeal.Read
public import Idealize.ShloMosaic.Lib.Pointwise
public import Idealize.ShloMosaic.Lib.Routing.OpsPair

@[expose] public section

set_option maxRecDepth 16384

noncomputable section

namespace Cert.RefOps

open Idealize.ShloMosaic Idealize.ShloMosaic.Routing Cert.ReferenceIdeal Cert.ReferenceIdeal.Gen

/-- How the reference reads the state: one column index an entry of the table. -/
abbrev gd : GatherDims S2x7x65536 S9x65536x1 S2x7x9x65536 := gather_S2x7x65536_S9x65536x1_S2x7x9x65536_01_2_n_n_2_2_271
/-- How the reference scatters its contributions: the same table of column indices. -/
abbrev sd : ScatterDims S2x7x65536 S9x65536x1 S2x7x9x65536 := scatter_S2x7x65536_S9x65536x1_S2x7x9x65536_01_2_2_2

variable (idx : IVec S9x65536x1 32)

/-- The read keeps the batch entry. -/
theorem g0 (b : Fin 2) (k : Fin 7) (t : Fin 9) (n : Fin 65536) :
    gd.start (ix4 b k t n) idx 0 + gd.batchCoord (ix4 b k t n) 0 + gd.offCoord (ix4 b k t n) 0 = b.val := by
  unfold GatherDims.start GatherDims.offCoord GatherDims.batchCoord
  show 0 + 0 + b.val = b.val
  omega

/-- The read keeps the time step. -/
theorem g1 (b : Fin 2) (k : Fin 7) (t : Fin 9) (n : Fin 65536) :
    gd.start (ix4 b k t n) idx 1 + gd.batchCoord (ix4 b k t n) 1 + gd.offCoord (ix4 b k t n) 1 = k.val := by
  unfold GatherDims.start GatherDims.offCoord GatherDims.batchCoord
  show 0 + 0 + k.val = k.val
  omega

/-- The read takes the column that the table names, held inside the grid. -/
theorem g2 (b : Fin 2) (k : Fin 7) (t : Fin 9) (n : Fin 65536) :
    gd.start (ix4 b k t n) idx 2 + gd.batchCoord (ix4 b k t n) 2 + gd.offCoord (ix4 b k t n) 2
      = min (idx (ix3 t n 0)).toInt.toNat 65535 := by
  have e : gd.siIdx (ix4 b k t n) ⟨0, by decide⟩ = ix3 t n 0 := by
    funext a
    match a with
    | ⟨0, _⟩ => rfl
    | ⟨1, _⟩ => rfl
    | ⟨2, _⟩ => rfl
  rw [← e]
  unfold GatherDims.start GatherDims.offCoord GatherDims.batchCoord
  rfl

/-- A contribution keeps its batch entry. -/
theorem s0 (b : Fin 2) (k : Fin 7) (t : Fin 9) (n : Fin 65536) :
    sd.start (ix4 b k t n) idx 0 + (sd.window (ix4 b k t n) 0 : Int) = b.val := by
  unfold ScatterDims.start ScatterDims.window
  show (0 : Int) + (b.val : Int) = b.val
  omega

/-- A contribution keeps its time step. -/
theorem s1 (b : Fin 2) (k : Fin 7) (t : Fin 9) (n : Fin 65536) :
    sd.start (ix4 b k t n) idx 1 + (sd.window (ix4 b k t n) 1 : Int) = k.val := by
  unfold ScatterDims.start ScatterDims.window
  show (0 : Int) + (k.val : Int) = k.val
  omega

/-- A contribution goes to the column that the table names. -/
theorem s2 (b : Fin 2) (k : Fin 7) (t : Fin 9) (n : Fin 65536) :
    sd.start (ix4 b k t n) idx 2 + (sd.window (ix4 b k t n) 2 : Int) = (idx (ix3 t n 0)).toInt := by
  have e : sd.siIdx (ix4 b k t n) ⟨0, by decide⟩ = ix3 t n 0 := by
    funext a
    match a with
    | ⟨0, _⟩ => rfl
    | ⟨1, _⟩ => rfl
    | ⟨2, _⟩ => rfl
  rw [← e]
  unfold ScatterDims.start ScatterDims.window
  exact Int.add_zero _

/-- The read at an entry of the table whose word is `p`. -/
theorem gather_at {α : Type} (x : S2x7x65536.Idx → α) (b : Fin 2) (k : Fin 7) (t : Fin 9) (n p : Fin 65536)
    (h : idx (ix3 t n 0) = BitVec.ofNat 32 p.val) : Host.gather gd x idx (ix4 b k t n) = x (ix3 b k p) := by
  refine congrArg x (funext fun a => Fin.ext ?_)
  have hp : (BitVec.ofNat 32 p.val).toInt = p.val := by
    have := p.isLt
    rw [BitVec.toInt_eq_toNat_cond, BitVec.toNat_ofNat]
    omega
  match a with
  | ⟨0, _⟩ => exact g0 idx b k t n
  | ⟨1, _⟩ => exact g1 idx b k t n
  | ⟨2, _⟩ =>
    refine (g2 idx b k t n).trans ?_
    rw [h, hp]
    have := p.isLt
    show min ((p.val : Int).toNat) 65535 = p.val
    omega

/-- A contribution lands where its table entry says, in its own batch entry and time step. -/
theorem lands (b b' : Fin 2) (k k' : Fin 7) (t : Fin 9) (n p p' : Fin 65536)
    (h : idx (ix3 t n 0) = BitVec.ofNat 32 p.val) :
    sd.resultIdx? (ix4 b k t n) idx = some (ix3 b' k' p') ↔ b = b' ∧ k = k' ∧ p = p' := by
  have hp : (BitVec.ofNat 32 p.val).toInt = p.val := by
    have := p.isLt
    rw [BitVec.toInt_eq_toNat_cond, BitVec.toNat_ofNat]
    omega
  rw [resultIdx?_eq_some]
  constructor
  · intro q
    have q0 := (s0 idx b k t n).symm.trans (q 0)
    have q1 := (s1 idx b k t n).symm.trans (q 1)
    have q2 := (s2 idx b k t n).symm.trans (q 2)
    rw [h, hp] at q2
    exact ⟨Fin.ext (Int.ofNat.inj q0), Fin.ext (Int.ofNat.inj q1), Fin.ext (Int.ofNat.inj q2)⟩
  · rintro ⟨rfl, rfl, rfl⟩ a
    match a with
    | ⟨0, _⟩ => exact s0 idx b k t n
    | ⟨1, _⟩ => exact s1 idx b k t n
    | ⟨2, _⟩ => exact (s2 idx b k t n).trans (by rw [h, hp]; rfl)

/-- The sum of the contributions landing at a position: one for each `t` when the entry `t` of exactly one position
    `src t` names it. -/
theorem scatter_at (x0 : S2x7x65536.Idx → EReal) (upd : S2x7x9x65536.Idx → EReal) (nb : Fin 9 → Fin 65536 → Fin 65536)
    (h : ∀ t n, idx (ix3 t n 0) = BitVec.ofNat 32 (nb t n).val) (b : Fin 2) (k : Fin 7) (p : Fin 65536)
    (src : Fin 9 → Fin 65536) (hs : ∀ t n, nb t n = p ↔ n = src t) :
    Ideal.hostScatterAdd sd x0 idx upd (ix3 b k p) = x0 (ix3 b k p) + ∑ t, upd (ix4 b k t (src t)) := by
  classical
  unfold Ideal.hostScatterAdd
  refine congrArg (x0 (ix3 b k p) + ·) ?_
  refine (Finset.sum_nbij' (fun t => ix4 b k t (src t)) (fun j => j 2) ?_ ?_ ?_ ?_ ?_).symm
  · intro t _
    refine Finset.mem_filter.2 ⟨Finset.mem_univ _, ?_⟩
    exact (lands idx b b k k t (src t) _ p (h t (src t))).2 ⟨rfl, rfl, (hs t _).2 rfl⟩
  · intro j _
    exact Finset.mem_univ _
  · intro t _
    rfl
  · intro j hj
    have hl := (Finset.mem_filter.1 hj).2
    idx_vars j
    have e := (lands idx _ b _ k _ _ _ p (h _ _)).1 hl
    obtain ⟨rfl, rfl, e2⟩ := e
    rw [(hs _ _).1 e2]
  · intro t _
    rfl

end Cert.RefOps

end
-- ==== Proof.PreOk.lean ====
/- What the precondition says of the arguments: the states and the coefficient fields are finite, `τ` is not zero, and the
   table of neighbors is the grid's periodic one. -/
module

public import proofs.«01_k».proof.Defs
public import proofs.«01_k».proof.Proof.Gen.Pre_ok
public import proofs.«01_k».proof.Proof.Inputs

@[expose] public section

set_option maxRecDepth 16384

noncomputable section

namespace Cert.PreOk

open Idealize.ShloMosaic Cert.Stencil Cert.Inputs Cert.Pre_ok

variable (X : FVec Ideal S2x7x65536 .f32) (K : FVec Ideal S2x1x65536x7 .f32) (M : FVec Ideal S2x2x65536x7 .f32)
  (H : FVec Ideal S2x2x2x65536x7 .f32) (T : FVec Ideal S2x1x65536x7 .f32) (N : IVec S9x65536 32)

/-- The word of a neighbor in the table, as the precondition writes it: the offsets are given as `256 + d`. -/
def word (a b : BitVec 32) (i j : Fin 256) : BitVec 32 :=
  IntOp.addi (IntOp.muli (IntOp.remsi .host (IntOp.addi (BitVec.ofNat 32 i.val) a) 256#32) 256#32)
    (IntOp.remsi .host (IntOp.addi (BitVec.ofNat 32 j.val) b) 256#32)

/-- A coordinate moved by an offset, with wraparound. -/
theorem rem_zero (i : Fin 256) : IntOp.remsi .host (IntOp.addi (BitVec.ofNat 32 i.val) 256#32) 256#32
    = BitVec.ofNat 32 (i + 0).val := by revert i; decide +kernel
/-- A coordinate moved by one, periodic. -/
theorem rem_one (i : Fin 256) : IntOp.remsi .host (IntOp.addi (BitVec.ofNat 32 i.val) 257#32) 256#32
    = BitVec.ofNat 32 (i + 1).val := by revert i; decide +kernel
/-- A coordinate moved back by one, periodic. -/
theorem rem_neg (i : Fin 256) : IntOp.remsi .host (IntOp.addi (BitVec.ofNat 32 i.val) 255#32) 256#32
    = BitVec.ofNat 32 (i + -1).val := by revert i; decide +kernel

/-- A table entry that equals the precondition's word is the flat position of the neighbor. -/
theorem entry {w a b : BitVec 32} {da db i j : Fin 256}
    (ha : IntOp.remsi .host (IntOp.addi (BitVec.ofNat 32 i.val) a) 256#32 = BitVec.ofNat 32 (i + da).val)
    (hb : IntOp.remsi .host (IntOp.addi (BitVec.ofNat 32 j.val) b) 256#32 = BitVec.ofNat 32 (j + db).val)
    (e : IntOp.cmpi .eq w (word a b i j) = 1#1) : w = BitVec.ofNat 32 (flat (i + da) (j + db)).val := by
  have e' : w = word a b i j := by
    by_contra hne
    have e2 : BitVec.ofBool (w == word a b i j) = 1#1 := e
    rw [beq_false_of_ne hne] at e2
    exact absurd e2 (by decide)
  rw [e', word, ha, hb]
  show BitVec.ofNat 32 _ * BitVec.ofNat 32 256 + BitVec.ofNat 32 _ = _
  rw [← BitVec.ofNat_mul, ← BitVec.ofNat_add]
  rfl

/-- Entry `t` of the table, at a grid point, is the flat position of neighbor `t`. -/
def Table (t : Fin 9) : Prop :=
  ∀ i j : Fin 256, N (ix2 t (flat i j)) = BitVec.ofNat 32 (flat (i + di t) (j + dj t)).val

/-- The precondition's parts on the table, one a neighbor. -/
theorem table0 [Facts] (h : (fn (F := Ideal) X K M H T N).2.2.2.2.2.1 = fun _ => 1#1) : Table N 0 := fun i j => by
  refine entry (rem_zero i) (rem_zero j) ((congrFun h (ix2 i j)).symm.trans ?_).symm
  pointwise [fn, fn_part1, fn_part2, fn_part3, fn_part4, fn_part5, fn_part6, fn_part7, fn_part8]
  rfl

/-- The precondition's part on neighbor 1. -/
theorem table1 [Facts] (h : (fn (F := Ideal) X K M H T N).2.2.2.2.2.2.1 = fun _ => 1#1) : Table N 1 := fun i j => by
  refine entry (rem_zero i) (rem_one j) ((congrFun h (ix2 i j)).symm.trans ?_).symm
  pointwise [fn, fn_part1, fn_part2, fn_part3, fn_part4, fn_part5, fn_part6, fn_part7, fn_part8]
  rfl

/-- The precondition's part on neighbor 2. -/
theorem table2 [Facts] (h : (fn (F := Ideal) X K M H T N).2.2.2.2.2.2.2.1 = fun _ => 1#1) : Table N 2 := fun i j => by
  refine entry (rem_zero i) (rem_neg j) ((congrFun h (ix2 i j)).symm.trans ?_).symm
  pointwise [fn, fn_part1, fn_part2, fn_part3, fn_part4, fn_part5, fn_part6, fn_part7, fn_part8]
  rfl

/-- The precondition's part on neighbor 3. -/
theorem table3 [Facts] (h : (fn (F := Ideal) X K M H T N).2.2.2.2.2.2.2.2.1 = fun _ => 1#1) : Table N 3 := fun i j => by
  refine entry (rem_neg i) (rem_zero j) ((congrFun h (ix2 i j)).symm.trans ?_).symm
  pointwise [fn, fn_part1, fn_part2, fn_part3, fn_part4, fn_part5, fn_part6, fn_part7, fn_part8]
  rfl

/-- The precondition's part on neighbor 4. -/
theorem table4 [Facts] (h : (fn (F := Ideal) X K M H T N).2.2.2.2.2.2.2.2.2.1 = fun _ => 1#1) : Table N 4 := fun i j => by
  refine entry (rem_one i) (rem_zero j) ((congrFun h (ix2 i j)).symm.trans ?_).symm
  pointwise [fn, fn_part1, fn_part2, fn_part3, fn_part4, fn_part5, fn_part6, fn_part7, fn_part8]
  rfl

/-- The precondition's part on neighbor 5. -/
theorem table5 [Facts] (h : (fn (F := Ideal) X K M H T N).2.2.2.2.2.2.2.2.2.2.1 = fun _ => 1#1) : Table N 5 := fun i j => by
  refine entry (rem_neg i) (rem_one j) ((congrFun h (ix2 i j)).symm.trans ?_).symm
  pointwise [fn, fn_part1, fn_part2, fn_part3, fn_part4, fn_part5, fn_part6, fn_part7, fn_part8]
  rfl

/-- The precondition's part on neighbor 6. -/
theorem table6 [Facts] (h : (fn (F := Ideal) X K M H T N).2.2.2.2.2.2.2.2.2.2.2.1 = fun _ => 1#1) : Table N 6 := fun i j => by
  refine entry (rem_neg i) (rem_neg j) ((congrFun h (ix2 i j)).symm.trans ?_).symm
  pointwise [fn, fn_part1, fn_part2, fn_part3, fn_part4, fn_part5, fn_part6, fn_part7, fn_part8]
  rfl

/-- The precondition's part on neighbor 7. -/
theorem table7 [Facts] (h : (fn (F := Ideal) X K M H T N).2.2.2.2.2.2.2.2.2.2.2.2.1 = fun _ => 1#1) : Table N 7 := fun i j => by
  refine entry (rem_one i) (rem_one j) ((congrFun h (ix2 i j)).symm.trans ?_).symm
  pointwise [fn, fn_part1, fn_part2, fn_part3, fn_part4, fn_part5, fn_part6, fn_part7, fn_part8]
  rfl

/-- The precondition's part on neighbor 8. -/
theorem table8 [Facts] (h : (fn (F := Ideal) X K M H T N).2.2.2.2.2.2.2.2.2.2.2.2.2 = fun _ => 1#1) : Table N 8 := fun i j => by
  refine entry (rem_one i) (rem_neg j) ((congrFun h (ix2 i j)).symm.trans ?_).symm
  pointwise [fn, fn_part1, fn_part2, fn_part3, fn_part4, fn_part5, fn_part6, fn_part7, fn_part8]
  rfl

/-- What lies strictly below infinity in absolute value is finite. -/
theorem finite_of (x : EReal) (e : FloatOps.cmpf (F := Ideal) (φ := .f32) .olt (FloatOps.absf (F := Ideal) (φ := .f32) x) (Scalar.ofBits (F := Ideal) .f32 0x7F800000#32) = 1#1) :
    x ≠ ⊤ ∧ x ≠ ⊥ := by
  have e' : max x (-x) < Ideal.ofBits .f32 0x7F800000#32 := by
    by_contra hne
    have e2 : BitVec.ofBool (decide (max x (-x) < Ideal.ofBits .f32 0x7F800000#32)) = 1#1 := e
    simp [hne] at e2
  have lt := lt_of_lt_of_le e' le_top
  constructor
  · rintro rfl
    simp at lt
  · rintro rfl
    simp at lt

/-- What is not equal to zero, as the comparison reads it. -/
theorem ne_of (x : EReal) (e : FloatOps.cmpf (F := Ideal) (φ := .f32) .une x (Scalar.ofBits (F := Ideal) .f32 0x00000000#32) = 1#1) :
    x ≠ 0 := by
  rintro rfl
  have e2 : BitVec.ofBool (decide ((0 : EReal) ≠ Ideal.ofBits .f32 0x00000000#32)) = 1#1 := e
  simp [Ideal.ofBits, Ideal.ieee] at e2

/-- The precondition's part on the states. -/
theorem finX [Facts] (h : (fn (F := Ideal) X K M H T N).1 = fun _ => 1#1) (i) : X i ≠ ⊤ ∧ X i ≠ ⊥ := by
  idx_vars i
  refine finite_of _ ((congrFun h (ix3 i0 i1 i2)).symm.trans ?_).symm
  pointwise [fn, fn_part1, fn_part2, fn_part3, fn_part4, fn_part5, fn_part6, fn_part7, fn_part8]

/-- The precondition's part on `κ`. -/
theorem finK [Facts] (h : (fn (F := Ideal) X K M H T N).2.1 = fun _ => 1#1) (i) : K i ≠ ⊤ ∧ K i ≠ ⊥ := by
  idx_vars i
  refine finite_of _ ((congrFun h (ix4 i0 i1 i2 i3)).symm.trans ?_).symm
  pointwise [fn, fn_part1, fn_part2, fn_part3, fn_part4, fn_part5, fn_part6, fn_part7, fn_part8]

/-- The precondition's part on the drift. -/
theorem finM [Facts] (h : (fn (F := Ideal) X K M H T N).2.2.1 = fun _ => 1#1) (i) : M i ≠ ⊤ ∧ M i ≠ ⊥ := by
  idx_vars i
  refine finite_of _ ((congrFun h (ix4 i0 i1 i2 i3)).symm.trans ?_).symm
  pointwise [fn, fn_part1, fn_part2, fn_part3, fn_part4, fn_part5, fn_part6, fn_part7, fn_part8]

/-- The precondition's part on the diffusion matrix. -/
theorem finH [Facts] (h : (fn (F := Ideal) X K M H T N).2.2.2.1 = fun _ => 1#1) (i) : H i ≠ ⊤ ∧ H i ≠ ⊥ := by
  idx_vars i
  refine finite_of _ ((congrFun h (ix5 i0 i1 i2 i3 i4)).symm.trans ?_).symm
  pointwise [fn, fn_part1, fn_part2, fn_part3, fn_part4, fn_part5, fn_part6, fn_part7, fn_part8]

/-- The precondition's part on `τ`. -/
theorem neT [Facts] (h : (fn (F := Ideal) X K M H T N).2.2.2.2.1 = fun _ => 1#1) (i) : T i ≠ 0 := by
  idx_vars i
  refine ne_of _ ((congrFun h (ix4 i0 i1 i2 i3)).symm.trans ?_).symm
  pointwise [fn, fn_part1, fn_part2, fn_part3, fn_part4, fn_part5, fn_part6, fn_part7, fn_part8]

/-- What the precondition gives. -/
theorem of_fn [Facts] (h : (fn (F := Ideal) X K M H T N).1 = (fun _ => 1#1) ∧ (fn (F := Ideal) X K M H T N).2.1 = (fun _ => 1#1) ∧ (fn (F := Ideal) X K M H T N).2.2.1 = (fun _ => 1#1) ∧ (fn (F := Ideal) X K M H T N).2.2.2.1 = (fun _ => 1#1) ∧ (fn (F := Ideal) X K M H T N).2.2.2.2.1 = (fun _ => 1#1) ∧ (fn (F := Ideal) X K M H T N).2.2.2.2.2.1 = (fun _ => 1#1) ∧ (fn (F := Ideal) X K M H T N).2.2.2.2.2.2.1 = (fun _ => 1#1) ∧ (fn (F := Ideal) X K M H T N).2.2.2.2.2.2.2.1 = (fun _ => 1#1) ∧ (fn (F := Ideal) X K M H T N).2.2.2.2.2.2.2.2.1 = (fun _ => 1#1) ∧ (fn (F := Ideal) X K M H T N).2.2.2.2.2.2.2.2.2.1 = (fun _ => 1#1) ∧ (fn (F := Ideal) X K M H T N).2.2.2.2.2.2.2.2.2.2.1 = (fun _ => 1#1) ∧ (fn (F := Ideal) X K M H T N).2.2.2.2.2.2.2.2.2.2.2.1 = (fun _ => 1#1) ∧ (fn (F := Ideal) X K M H T N).2.2.2.2.2.2.2.2.2.2.2.2.1 = (fun _ => 1#1) ∧ (fn (F := Ideal) X K M H T N).2.2.2.2.2.2.2.2.2.2.2.2.2 = (fun _ => 1#1)) :
    Finite X K M H T ∧ ∀ t, Table N t := by
  refine ⟨⟨finX X K M H T N h.1, finK X K M H T N h.2.1, finM X K M H T N h.2.2.1, finH X K M H T N h.2.2.2.1, neT X K M H T N h.2.2.2.2.1⟩, fun t => ?_⟩
  fin_cases t
  · exact table0 X K M H T N h.2.2.2.2.2.1
  · exact table1 X K M H T N h.2.2.2.2.2.2.1
  · exact table2 X K M H T N h.2.2.2.2.2.2.2.1
  · exact table3 X K M H T N h.2.2.2.2.2.2.2.2.1
  · exact table4 X K M H T N h.2.2.2.2.2.2.2.2.2.1
  · exact table5 X K M H T N h.2.2.2.2.2.2.2.2.2.2.1
  · exact table6 X K M H T N h.2.2.2.2.2.2.2.2.2.2.2.1
  · exact table7 X K M H T N h.2.2.2.2.2.2.2.2.2.2.2.2.1
  · exact table8 X K M H T N h.2.2.2.2.2.2.2.2.2.2.2.2.2

end Cert.PreOk

end
-- ==== Proof.RefCoef.lean ====
/- The reference's coefficients, weights and table at an index. -/
module

public import proofs.«01_k».proof.Proof.RefOps
public import proofs.«01_k».proof.Proof.Lift
public import proofs.«01_k».proof.Proof.PreOk

@[expose] public section

set_option maxRecDepth 16384

noncomputable section

namespace Cert.RefCoef

open Idealize.ShloMosaic Cert.ReferenceIdeal Cert.ReferenceIdeal.Gen Cert.ReferenceIdeal.Read Cert.Stencil Cert.Inputs
open Cert.Lift (ofBits_half ofBits_two ofBits_quarter)

variable (X : FVec Ideal S2x7x65536 .f32) (K : FVec Ideal S2x1x65536x7 .f32) (M : FVec Ideal S2x2x65536x7 .f32)
  (H : FVec Ideal S2x2x2x65536x7 .f32) (T : FVec Ideal S2x1x65536x7 .f32) (N : IVec S9x65536 32)
  (b : Fin 2) (k : Fin 7) (i j : Fin 256)

/-- The argument fields, laid out one grid point and time step an entry. -/
theorem v0_at (n : Fin 65536) : val_main_v0 (F := Ideal) K (ix3 b n k) = K (ix4 b 0 n k) := by
  pointwise [val_main_v0]

/-- The diffusion matrix: row one, column one. -/
theorem v3_at (n : Fin 65536) : val_main_v3 (F := Ideal) H (ix3 b n k) = H (ix5 b 0 0 n k) := by
  pointwise [val_main_v3, val_main_v2]

/-- Row one, column two. -/
theorem v5_at (n : Fin 65536) : val_main_v5 (F := Ideal) H (ix3 b n k) = H (ix5 b 0 1 n k) := by
  pointwise [val_main_v5, val_main_v4]

/-- Row two, column one. -/
theorem v7_at (n : Fin 65536) : val_main_v7 (F := Ideal) H (ix3 b n k) = H (ix5 b 1 0 n k) := by
  pointwise [val_main_v7, val_main_v6]

/-- Row two, column two. -/
theorem v9_at (n : Fin 65536) : val_main_v9 (F := Ideal) H (ix3 b n k) = H (ix5 b 1 1 n k) := by
  pointwise [val_main_v9, val_main_v8]

/-- The first drift component. -/
theorem v11_at (n : Fin 65536) : val_main_v11 (F := Ideal) M (ix3 b n k) = M (ix4 b 0 n k) := by
  pointwise [val_main_v11, val_main_v10]

/-- The second drift component. -/
theorem v13_at (n : Fin 65536) : val_main_v13 (F := Ideal) M (ix3 b n k) = M (ix4 b 1 n k) := by
  pointwise [val_main_v13, val_main_v12]

variable {X K M H T} (h : Finite X K M H T)
include h

/-- The nine coefficients at a grid point. -/
theorem coef_at (t : Fin 9) :
    val_main_v51 (F := Ideal) K M H (ix4 b k t (flat i j)) = (((reals X K M H T).coef b k t i j : ℝ) : EReal) := by
  fin_cases t <;> dsimp only
  all_goals
    pointwise [val_main_v51, val_main_v50, val_main_v41, val_main_v42, val_main_v43, val_main_v44, val_main_v45,
      val_main_v46, val_main_v47, val_main_v48, val_main_v49, val_main_v1, val_main_v14, val_main_v15,
      val_main_v16, val_main_v17, val_main_v18, val_main_v19, val_main_v20, val_main_v21, val_main_v22,
      val_main_v23, val_main_v24, val_main_v25, val_main_v26, val_main_v27, val_main_v28, val_main_v29,
      val_main_v30, val_main_v31, val_main_v32, val_main_v33, val_main_v34, val_main_v35, val_main_v36,
      val_main_v37, val_main_v38, val_main_v39, val_main_v40, val_main_cst, val_main_cst_0, val_main_cst_1,
      val_main_cst_2, val_main_cst_3, val_main_cst_4, val_main_cst_5]
    simp only [v0_at, v3_at, v5_at, v7_at, v9_at, v11_at, v13_at, h.kap_at, h.m1_at, h.m2_at, h.h11_at, h.h12_at, h.h21_at,
      h.h22_at, ofBits_half, ofBits_two, ofBits_quarter, ← EReal.coe_mul, ← EReal.coe_add, ← EReal.coe_sub, ← EReal.coe_neg]
    rfl

omit h in
/-- The time step before, where there is one. -/
theorem pred_val (k : Fin 7) (hk : k ≠ 0) : k.val - 1 = (k - 1).val := by
  revert k; decide

/-- The reciprocal of `τ²` at a grid point. -/
theorem q_at : val_main_v56 (F := Ideal) T (ix3 b k (flat i j)) = (((reals X K M H T).q b k i j : ℝ) : EReal) := by
  have e : val_main_v56 (F := Ideal) T (ix3 b k (flat i j))
      = Ideal.div 1 (T (ix4 b 0 (flat i j) k) * T (ix4 b 0 (flat i j) k)) := by
    pointwise [val_main_v56, val_main_v55, val_main_v54, val_main_cst_6, val_main_v53, val_main_v52]
  rw [e, h.q_at]

/-- The state of the time step before at a grid point. -/
theorem xprev_at : val_main_v60 (F := Ideal) X (ix3 b k (flat i j)) = (((reals X K M H T).xprev b k i j : ℝ) : EReal) := by
  have e : val_main_v60 (F := Ideal) X (ix3 b k (flat i j))
      = if h : k.val < 1 then 0 else X (ix3 b ⟨k.val - 1, by omega⟩ (flat i j)) := by
    pointwise [val_main_v60, val_main_v58, val_main_v59, val_main_cst_7]
  rw [e]
  by_cases hk : k = 0
  · subst hk
    rfl
  · have hv : ¬ k.val < 1 := fun q => hk (Fin.ext (by simpa using q))
    have hp : (⟨k.val - 1, by omega⟩ : Fin 7) = k - 1 := Fin.ext (pred_val k hk)
    rw [dif_neg hv, hp, h.x_at, Fields.xprev, if_neg hk]

omit h

/-- The first array of table entries is the table itself: no entry is negative. -/
theorem idx66_at (t : Fin 9) (n p : Fin 65536) (hN : N (ix2 t n) = BitVec.ofNat 32 p.val) :
    val_main_v66 (F := Ideal) N (ix3 t n 0) = BitVec.ofNat 32 p.val := by
  have e : val_main_v66 (F := Ideal) N (ix3 t n 0) = Scalar.select (IntOp.cmpi .slt (N (ix2 t n)) 0#32)
      (IntOp.addi (N (ix2 t n)) 65536#32) (N (ix2 t n)) := by
    pointwise [val_main_v66, val_main_v65, val_main_v62, val_main_v64, val_main_v61, val_main_v63, val_main_c, val_main_c_8]
  rw [e, Routing.wrap_of_lt _ _ (by rw [hN, BitVec.toNat_ofNat]; omega), hN]

/-- The same of the second array of table entries. -/
theorem idx90_at (t : Fin 9) (n p : Fin 65536) (hN : N (ix2 t n) = BitVec.ofNat 32 p.val) :
    val_main_v90 (F := Ideal) N (ix3 t n 0) = BitVec.ofNat 32 p.val := by
  have e : val_main_v90 (F := Ideal) N (ix3 t n 0) = Scalar.select (IntOp.cmpi .slt (N (ix2 t n)) 0#32)
      (IntOp.addi (N (ix2 t n)) 65536#32) (N (ix2 t n)) := by
    pointwise [val_main_v90, val_main_v89, val_main_v86, val_main_v88, val_main_v85, val_main_v87, val_main_c_12, val_main_c_13]
  rw [e, Routing.wrap_of_lt _ _ (by rw [hN, BitVec.toNat_ofNat]; omega), hN]

/-- The same of the third array of table entries. -/
theorem idx106_at (t : Fin 9) (n p : Fin 65536) (hN : N (ix2 t n) = BitVec.ofNat 32 p.val) :
    val_main_v106 (F := Ideal) N (ix3 t n 0) = BitVec.ofNat 32 p.val := by
  have e : val_main_v106 (F := Ideal) N (ix3 t n 0) = Scalar.select (IntOp.cmpi .slt (N (ix2 t n)) 0#32)
      (IntOp.addi (N (ix2 t n)) 65536#32) (N (ix2 t n)) := by
    pointwise [val_main_v106, val_main_v105, val_main_v102, val_main_v104, val_main_v101, val_main_v103, val_main_c_16, val_main_c_17]
  rw [e, Routing.wrap_of_lt _ _ (by rw [hN, BitVec.toNat_ofNat]; omega), hN]

end Cert.RefCoef

end
-- ==== Proof.RefOut.lean ====
/- The reference's result at an index: the sums over the nine neighbors, over the real numbers. -/
module

public import proofs.«01_k».proof.Proof.RefCoef

@[expose] public section

set_option maxRecDepth 16384

noncomputable section

namespace Cert.RefOut

open Idealize.ShloMosaic Cert.ReferenceIdeal Cert.ReferenceIdeal.Gen Cert.ReferenceIdeal.Read Cert.Stencil Cert.Inputs
open Cert.RefOps Cert.RefCoef Cert.PreOk

/-- A sum of reals is a real. -/
theorem coe_sum {n : Nat} (g : Fin n → ℝ) : ∑ t, ((g t : ℝ) : EReal) = ((∑ t, g t : ℝ) : EReal) := by
  induction n with
  | zero => simp
  | succ n ih => rw [Fin.sum_univ_succ, Fin.sum_univ_succ, ih, EReal.coe_add]

/-- The row of a flat position. -/
def frow (n : Fin 65536) : Fin 256 := ⟨n.val / 256, by omega⟩
/-- The column of a flat position. -/
def fcol (n : Fin 65536) : Fin 256 := ⟨n.val % 256, by omega⟩

/-- A flat position is that of its row and column. -/
theorem flat_eq (n : Fin 65536) : flat (frow n) (fcol n) = n := Fin.ext (by show n.val / 256 * 256 + n.val % 256 = n.val; omega)
/-- Different grid points have different flat positions. -/
theorem flat_inj (i j i' j' : Fin 256) : flat i j = flat i' j' ↔ i = i' ∧ j = j' := by
  constructor
  · intro e
    have e' : i.val * 256 + j.val = i'.val * 256 + j'.val := congrArg Fin.val e
    exact ⟨Fin.ext (by omega), Fin.ext (by omega)⟩
  · rintro ⟨rfl, rfl⟩; rfl

/-- The flat position of neighbor `t` of a flat position. -/
def nb (t : Fin 9) (n : Fin 65536) : Fin 65536 := flat (frow n + di t) (fcol n + dj t)

/-- The one position whose neighbor `t` is a given one. -/
theorem nb_eq (i j : Fin 256) (t : Fin 9) (n : Fin 65536) : nb t n = flat i j ↔ n = flat (i - di t) (j - dj t) := by
  conv_rhs => rw [← flat_eq n]
  rw [nb, flat_inj, flat_inj, eq_sub_iff_add_eq, eq_sub_iff_add_eq]

variable {X : FVec Ideal S2x7x65536 .f32} {K : FVec Ideal S2x1x65536x7 .f32} {M : FVec Ideal S2x2x65536x7 .f32}
  {H : FVec Ideal S2x2x2x65536x7 .f32} {T : FVec Ideal S2x1x65536x7 .f32} {N : IVec S9x65536 32}
  (h : Finite X K M H T) (hN : ∀ t, Table N t) (b : Fin 2) (k : Fin 7) (i j : Fin 256)

include hN in
/-- The table at a flat position. -/
theorem table_at (t : Fin 9) (n : Fin 65536) : N (ix2 t n) = BitVec.ofNat 32 (nb t n).val := by
  have e := hN t (frow n) (fcol n)
  rw [flat_eq] at e
  exact e

include h hN

/-- The state read at neighbor `t`. -/
theorem v67_at (t : Fin 9) : val_main_v67 (F := Ideal) X N (ix4 b k t (flat i j))
    = (((reals X K M H T).x b k (i + di t) (j + dj t) : ℝ) : EReal) := by
  rw [← h.x_at]
  exact gather_at _ X b k t (flat i j) _ (idx66_at N t _ _ (hN t i j))

/-- The implicit step. -/
theorem v72_at : val_main_v72 (F := Ideal) X K M H N (ix3 b k (flat i j))
    = (((reals X K M H T).refU b k i j : ℝ) : EReal) := by
  have e69 : val_main_v69 (F := Ideal) X K M H N (ix3 b k (flat i j))
      = ((refA ((reals X K M H T).coef b k) ((reals X K M H T).x b k) i j : ℝ) : EReal) := by
    rw [val_main_v69_apply]
    have ez : (val_main_cst_9 (F := Ideal)) (Shape.Idx.first h_S_) = 0 := by
      show Ideal.ofBits .f32 0x00000000#32 = 0
      simp [Ideal.ofBits, Ideal.ieee]
    rw [ez, zero_add, refA, ← coe_sum]
    refine Finset.sum_congr rfl fun t _ => ?_
    have ei : idx_main_v69 (ix3 b k (flat i j)) t = ix4 b k t (flat i j) := by
      funext a
      match a with
      | ⟨0, _⟩ => rfl
      | ⟨1, _⟩ => rfl
      | ⟨2, _⟩ => rfl
      | ⟨3, _⟩ => rfl
    rw [ei, EReal.coe_mul, ← coef_at b k i j h t, ← v67_at h hN b k i j t]
    rfl
  have e : val_main_v72 (F := Ideal) X K M H N (ix3 b k (flat i j)) = X (ix3 b k (flat i j))
      + Ideal.ofBits .f32 0x3F800000#32 * val_main_v69 (F := Ideal) X K M H N (ix3 b k (flat i j)) := by
    pointwise [val_main_v72, val_main_v71, val_main_v70, val_main_cst_10]
  rw [e, e69, h.x_at, Ideal.ofBits_one_f32, one_mul, ← EReal.coe_add]
  rfl

omit hN in
/-- The weighted state of the time step before. -/
theorem v80_at : val_main_v80 (F := Ideal) X T (ix3 b k (flat i j))
    = ((((reals X K M H T).q b k * (reals X K M H T).xprev b k) i j : ℝ) : EReal) := by
  show val_main_v56 (F := Ideal) T (ix3 b k (flat i j)) * val_main_v60 (F := Ideal) X (ix3 b k (flat i j)) = _
  rw [q_at b k i j h, xprev_at b k i j h, ← EReal.coe_mul]
  rfl

/-- The weighted implicit step. -/
theorem v96_at : val_main_v96 (F := Ideal) X K M H T N (ix3 b k (flat i j))
    = ((((reals X K M H T).q b k * (reals X K M H T).refU b k) i j : ℝ) : EReal) := by
  show val_main_v56 (F := Ideal) T (ix3 b k (flat i j)) * val_main_v72 (F := Ideal) X K M H N (ix3 b k (flat i j)) = _
  rw [q_at b k i j h, v72_at h hN b k i j, ← EReal.coe_mul]
  rfl

/-- The contributions of the weighted state, added up where they land. -/
theorem v91_at : val_main_v91 (F := Ideal) X K M H T N (ix3 b k (flat i j))
    = ((refAT ((reals X K M H T).coef b k) ((reals X K M H T).q b k * (reals X K M H T).xprev b k) i j : ℝ) : EReal) := by
  refine (scatter_at (val_main_v90 (F := Ideal) N) (val_main_v81 (F := Ideal)) (val_main_v84 (F := Ideal) X K M H T) nb
    (fun t n => idx90_at N t n _ (table_at hN t n)) b k (flat i j) (fun t => flat (i - di t) (j - dj t))
    (nb_eq i j)).trans ?_
  have ez : val_main_v81 (F := Ideal) (ix3 b k (flat i j)) = 0 := by
    pointwise [val_main_v81, val_main_cst_11]
  rw [ez, zero_add, refAT, ← coe_sum]
  refine Finset.sum_congr rfl fun t _ => ?_
  have e : ∀ n, val_main_v84 (F := Ideal) X K M H T (ix4 b k t n)
      = val_main_v51 (F := Ideal) K M H (ix4 b k t n) * val_main_v80 (F := Ideal) X T (ix3 b k n) := fun n => by
    pointwise [val_main_v84, val_main_v83, val_main_v82]
  rw [e, coef_at b k _ _ h t, v80_at h b k, ← EReal.coe_mul]

/-- The contributions of the weighted implicit step, added up where they land. -/
theorem v107_at : val_main_v107 (F := Ideal) X K M H T N (ix3 b k (flat i j))
    = ((refAT ((reals X K M H T).coef b k) ((reals X K M H T).q b k * (reals X K M H T).refU b k) i j : ℝ) : EReal) := by
  refine (scatter_at (val_main_v106 (F := Ideal) N) (val_main_v97 (F := Ideal)) (val_main_v100 (F := Ideal) X K M H T N) nb
    (fun t n => idx106_at N t n _ (table_at hN t n)) b k (flat i j) (fun t => flat (i - di t) (j - dj t))
    (nb_eq i j)).trans ?_
  have ez : val_main_v97 (F := Ideal) (ix3 b k (flat i j)) = 0 := by
    pointwise [val_main_v97, val_main_cst_15]
  rw [ez, zero_add, refAT, ← coe_sum]
  refine Finset.sum_congr rfl fun t _ => ?_
  have e : ∀ n, val_main_v100 (F := Ideal) X K M H T N (ix4 b k t n)
      = val_main_v51 (F := Ideal) K M H (ix4 b k t n) * val_main_v96 (F := Ideal) X K M H T N (ix3 b k n) := fun n => by
    pointwise [val_main_v100, val_main_v99, val_main_v98]
  rw [e, coef_at b k _ _ h t, v96_at h hN b k, ← EReal.coe_mul]

omit h hN in
/-- The time step after, where there is one. -/
theorem succ_val (k : Fin 7) (hk : k ≠ 6) : k.val < 6 ∧ k.val + 1 = (k + 1).val := by
  revert k; decide

/-- The part that couples to the time step after. -/
theorem v112_at : val_main_v112 (F := Ideal) X K M H T N (ix3 b k (flat i j))
    = (((if k = 6 then 0 else (reals X K M H T).q b (k + 1) i j * (reals X K M H T).x b k i j
        - (reals X K M H T).q b (k + 1) i j * (reals X K M H T).refU b (k + 1) i j : ℝ)) : EReal) := by
  have e : val_main_v112 (F := Ideal) X K M H T N (ix3 b k (flat i j))
      = if hk : k.val < 6 then
          val_main_v56 (F := Ideal) T (ix3 b ⟨1 + k.val, by omega⟩ (flat i j)) * X (ix3 b k (flat i j))
            - val_main_v56 (F := Ideal) T (ix3 b ⟨1 + k.val, by omega⟩ (flat i j))
              * val_main_v72 (F := Ideal) X K M H N (ix3 b ⟨1 + k.val, by omega⟩ (flat i j))
        else 0 := by
    pointwise [val_main_v112, val_main_v79, val_main_v75, val_main_v73, val_main_v74, val_main_v78, val_main_v76,
      val_main_v77, val_main_v58, val_main_cst_7]
  rw [e]
  by_cases hk : k = 6
  · subst hk
    rfl
  · obtain ⟨hlt, hs⟩ := succ_val k hk
    have hp : (⟨1 + k.val, by omega⟩ : Fin 7) = k + 1 := Fin.ext ((Nat.add_comm _ _).trans hs)
    rw [dif_pos hlt, hp, if_neg hk, q_at b (k + 1) i j h, h.x_at, v72_at h hN b (k + 1) i j, ← EReal.coe_mul,
      ← EReal.coe_mul, ← EReal.coe_sub]

/-- The reference's result. -/
theorem v113_at : val_main_v113 (F := Ideal) X K M H T N (ix3 b k (flat i j))
    = (((reals X K M H T).refOut b k i j : ℝ) : EReal) := by
  have e : val_main_v113 (F := Ideal) X K M H T N (ix3 b k (flat i j))
      = (-(val_main_v80 (F := Ideal) X T (ix3 b k (flat i j))
          + Ideal.ofBits .f32 0x3F800000#32 * val_main_v91 (F := Ideal) X K M H T N (ix3 b k (flat i j)))
        + (val_main_v96 (F := Ideal) X K M H T N (ix3 b k (flat i j))
          + Ideal.ofBits .f32 0x3F800000#32 * val_main_v107 (F := Ideal) X K M H T N (ix3 b k (flat i j))))
        + val_main_v112 (F := Ideal) X K M H T N (ix3 b k (flat i j)) := by
    pointwise [val_main_v113, val_main_v111, val_main_v95, val_main_v94, val_main_v93, val_main_v92, val_main_cst_14,
      val_main_v110, val_main_v109, val_main_v108, val_main_cst_18]
  rw [e, Ideal.ofBits_one_f32, one_mul, one_mul, v80_at h b k i j, v91_at h hN b k i j, v96_at h hN b k i j,
    v107_at h hN b k i j, v112_at h hN b k i j, ← EReal.coe_add, ← EReal.coe_neg, ← EReal.coe_add, ← EReal.coe_add, ← EReal.coe_add]
  rfl

end Cert.RefOut

end
-- ==== Proof.lean ====
/- The certificate's claim from its parts. The frames are the generated modules'; `preserves` holds because the kernel is
   lowered unchanged. `algebraic`: under the precondition the kernel's result is the array of `Fields.kerOut`
   (Proof/KernelRun.lean), the reference's is the array of `Fields.refOut` (Proof/RefOut.lean), and the two are equal
   (Proof/Stencil.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_ok
public import proofs.«01_k».proof.Proof.Gen.ReferenceIdeal.Run
public import proofs.«01_k».proof.Proof.Gen.ReferenceIdeal.Read
public import proofs.«01_k».proof.Proof.KernelRun
public import proofs.«01_k».proof.Proof.RefOut
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference's result is the array that the kernel computes. -/
theorem reference_eq {X : FVec Ideal Cert.ReferenceIdeal.S2x7x65536 .f32} {K : FVec Ideal Cert.ReferenceIdeal.S2x1x65536x7 .f32}
    {M : FVec Ideal Cert.ReferenceIdeal.S2x2x65536x7 .f32} {H : FVec Ideal Cert.ReferenceIdeal.S2x2x2x65536x7 .f32}
    {T : FVec Ideal Cert.ReferenceIdeal.S2x1x65536x7 .f32} {N : IVec Cert.ReferenceIdeal.S9x65536 32}
    (h : Cert.Inputs.Finite X K M H T) (hN : ∀ t, Cert.PreOk.Table N t) :
    Cert.ReferenceIdeal.Read.val_main_v113 (F := Ideal) X K M H T N = Cert.KernelRun.result (Cert.Inputs.reals X K M H T) := by
  funext y
  idx_vars y
  have e := Cert.RefOut.v113_at h hN y0 y1 (Cert.RefOut.frow y2) (Cert.RefOut.fcol y2)
  rw [Cert.RefOut.flat_eq, ← Cert.Stencil.Fields.kerOut_eq] at e
  exact e

/-- The kernel and the reference compute the same extended reals under the precondition. -/
theorem algebraic : algebraic_KernelIdeal_ReferenceIdeal_pre_ok (hKernelIdeal := Cert.KernelIdeal.Gen.facts)
    (hReferenceIdeal := Cert.ReferenceIdeal.Gen.facts) (hPre_ok := Cert.Pre_ok.Gen.facts) := by
  intro m g m' g' hpre hargs
  have hp := fun c => Cert.PreOk.of_fn _ _ _ _ _ _ (hpre c)
  refine ⟨fun c => Cert.KernelRun.result (Cert.Point.fields m c), ?_, ?_⟩
  · exact (θ_run _ _ _).mono (fun r h c => ⟨h.1 c, h.2 c⟩)
      (θ_run_and (Cert.KernelRun.run m g fun c => (hp c).1) (Cert.KernelIdeal.Gen.unchanged m g))
  · refine (θ_run _ _ _).mono (fun r h c => ⟨(h c).1.trans ?_, (h c).2⟩) (Cert.ReferenceIdeal.Value.run (F := Ideal) m' g')
    obtain ⟨e0, e1, e2, e3, e4, e5⟩ := hargs c
    rw [Cert.ReferenceIdeal.Read.val_main_v113_eq, e0, e1, e2, e3, e4, e5]
    exact reference_eq (hp c).1 (hp c).2

theorem claim : Cert.Claim := ⟨Cert.Kernel.Gen.facts, Cert.KernelIdeal.Gen.facts, Cert.ReferenceIdeal.Gen.facts, Cert.Pre_ok.Gen.facts,
  fun m g _ => Cert.Kernel.Gen.frame m g, fun m g _ => Cert.KernelIdeal.Gen.frame m g, fun m g _ => Cert.KernelIdeal.Gen.frame m g,
  fun m g _ => (θ_run _ _ _).mono (fun r h => ⟨fun c => (h c).2, Idealize.ShloMosaic.sem_eq_zero_of_no_sems (by decide) r.2⟩)
    (Cert.ReferenceIdeal.Value.run m g),
  fun m g _ => (θ_run _ _ _).mono (fun r h => ⟨fun c => (h c).2, Idealize.ShloMosaic.sem_eq_zero_of_no_sems (by decide) r.2⟩)
    (Cert.ReferenceIdeal.Value.run m g),
  trivial, algebraic⟩

end Cert.Proof

end
